-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x128 : Shape := ⟨2, ![32768, 128]⟩
abbrev S128 : Shape := ⟨1, ![128]⟩
abbrev S128x256 : Shape := ⟨2, ![128, 256]⟩
abbrev S256 : Shape := ⟨1, ![256]⟩
abbrev S256x3200 : Shape := ⟨2, ![256, 3200]⟩
abbrev S3200 : Shape := ⟨1, ![3200]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x3200 : S_.BroadcastsInDim S256x3200 (![] : Fin 0 → Fin S256x3200.rank)
  reducesTo_S256x3200_S_d0_1 : S256x3200.ReducesTo [0, 1] S_
  bcast_S_S3200 : S_.BroadcastsInDim S3200 (![] : Fin 0 → Fin S3200.rank)
  reducesTo_S3200_S_d0 : S3200.ReducesTo [0] S_

variable [Facts]

def fn_part1 {F : FTy → Type} [FloatOps F] (main_arg4 : FVec F S256x3200 .f32) (main_arg5 : FVec F S3200 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x3200 .f32 := Host.absf main_arg4
  let main_cst_6 : FVec F S_ .f32 := constant S_ .f32 0x7F800000#32
  let main_v20 : FVec F S256x3200 .f32 := broadcastInDim S256x3200 ![] bcast_S_S256x3200 main_cst_6
  let main_v21 : IVec S256x3200 1 := cmpf .olt main_v19 main_v20
  let main_c_7 : IVec S_ 1 := constantI S_ 1 1#1
  let main_v22 : IVec S_ 1 := (fun x v => Host.reduce IntOp.andi x v reducesTo_S256x3200_S_d0_1 h_S_) main_v21 main_c_7
  let main_v23 : IVec S_ 1 := andi main_v18 main_v22
  let main_v24 : FVec F S3200 .f32 := Host.absf main_arg5
  let main_cst_8 : FVec F S_ .f32 := constant S_ .f32 0x7F800000#32
  let main_v25 : FVec F S3200 .f32 := broadcastInDim S3200 ![] bcast_S_S3200 main_cst_8
  let main_v26 : IVec S3200 1 := cmpf .olt main_v24 main_v25
  let main_c_9 : IVec S_ 1 := constantI S_ 1 1#1
  let main_v27 : IVec S_ 1 := (fun x v => Host.reduce IntOp.andi x v reducesTo_S3200_S_d0 h_S_) main_v26 main_c_9
  let main_v28 : IVec S_ 1 := andi main_v23 main_v27
  main_v28

def fn {F : FTy → Type} [FloatOps F] (main_arg0 : FVec F S32768x128 .f32) (main_arg1 : FVec F S128 .f32) (main_arg2 : FVec F S128x256 .f32) (main_arg3 : FVec F S256 .f32) (main_arg4 : FVec F S256x3200 .f32) (main_arg5 : FVec F S3200 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S32768x128 : Shape := ⟨2, ![32768, 128]⟩
abbrev S128 : Shape := ⟨1, ![128]⟩
abbrev S128x256 : Shape := ⟨2, ![128, 256]⟩
abbrev S256 : Shape := ⟨1, ![256]⟩
abbrev S256x3200 : Shape := ⟨2, ![256, 3200]⟩
abbrev S3200 : Shape := ⟨1, ![3200]⟩
abbrev S256x128x25 : Shape := ⟨3, ![256, 128, 25]⟩
abbrev S256x25x128 : Shape := ⟨3, ![256, 25, 128]⟩
abbrev S128x25 : Shape := ⟨2, ![128, 25]⟩
abbrev S25x128 : Shape := ⟨2, ![25, 128]⟩
abbrev S1x3200 : Shape := ⟨2, ![1, 3200]⟩
abbrev S1x128 : Shape := ⟨2, ![1, 128]⟩
abbrev S1x256 : Shape := ⟨2, ![1, 256]⟩
abbrev S32768x1 : Shape := ⟨2, ![32768, 1]⟩
abbrev S256x128 : Shape := ⟨2, ![256, 128]⟩
abbrev S256x1 : Shape := ⟨2, ![256, 1]⟩
abbrev S256x256 : Shape := ⟨2, ![256, 256]⟩

abbrev nBuf : Space → Nat
  | .hbm => 16
  | .vmem => 11
  | .smem => 0
  | _ => 0

abbrev bufTy : (tb : Table) → Fin (tcTables nBuf tb) → BufTy
  | .hbm, ⟨0, _⟩ => ⟨S32768x128, .f32⟩
  | .hbm, ⟨1, _⟩ => ⟨S128, .f32⟩
  | .hbm, ⟨2, _⟩ => ⟨S128x256, .f32⟩
  | .hbm, ⟨3, _⟩ => ⟨S256, .f32⟩
  | .hbm, ⟨4, _⟩ => ⟨S256x3200, .f32⟩
  | .hbm, ⟨5, _⟩ => ⟨S3200, .f32⟩
  | .hbm, ⟨6, _⟩ => ⟨S256x128x25, .f32⟩
  | .hbm, ⟨7, _⟩ => ⟨S256x25x128, .f32⟩
  | .hbm, ⟨8, _⟩ => ⟨S256x3200, .f32⟩
  | .hbm, ⟨9, _⟩ => ⟨S128x25, .f32⟩
  | .hbm, ⟨10, _⟩ => ⟨S25x128, .f32⟩
  | .hbm, ⟨11, _⟩ => ⟨S1x3200, .f32⟩
  | .hbm, ⟨12, _⟩ => ⟨S1x128, .f32⟩
  | .hbm, ⟨13, _⟩ => ⟨S1x256, .f32⟩
  | .hbm, ⟨14, _⟩ => ⟨S32768x128, .f32⟩
  | .hbm, ⟨15, _⟩ => ⟨S32768x1, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S128x256, .f32⟩
  | .local _ .vmem, ⟨4, _⟩ => ⟨S1x256, .f32⟩
  | .local _ .vmem, ⟨5, _⟩ => ⟨S256x3200, .f32⟩
  | .local _ .vmem, ⟨6, _⟩ => ⟨S1x3200, .f32⟩
  | .local _ .vmem, ⟨7, _⟩ => ⟨S256x128, .f32⟩
  | .local _ .vmem, ⟨8, _⟩ => ⟨S256x128, .f32⟩
  | .local _ .vmem, ⟨9, _⟩ => ⟨S256x1, .f32⟩
  | .local _ .vmem, ⟨10, _⟩ => ⟨S256x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x128 : Shape := ⟨2, ![32768, 128]⟩
abbrev S128 : Shape := ⟨1, ![128]⟩
abbrev S128x256 : Shape := ⟨2, ![128, 256]⟩
abbrev S256 : Shape := ⟨1, ![256]⟩
abbrev S256x3200 : Shape := ⟨2, ![256, 3200]⟩
abbrev S3200 : Shape := ⟨1, ![3200]⟩
abbrev S1x128 : Shape := ⟨2, ![1, 128]⟩
abbrev S_ : Shape := ⟨0, ![]⟩
abbrev S32768x256 : Shape := ⟨2, ![32768, 256]⟩
abbrev S1x256 : Shape := ⟨2, ![1, 256]⟩
abbrev S32768x3200 : Shape := ⟨2, ![32768, 3200]⟩
abbrev S1x3200 : Shape := ⟨2, ![1, 3200]⟩
abbrev S32768x128x25 : Shape := ⟨3, ![32768, 128, 25]⟩
abbrev S32768x128x8 : Shape := ⟨3, ![32768, 128, 8]⟩
abbrev S32768x128x9 : Shape := ⟨3, ![32768, 128, 9]⟩
abbrev S32768x128x1 : Shape := ⟨3, ![32768, 128, 1]⟩
abbrev S1 : Shape := ⟨1, ![1]⟩
abbrev S32768x128x1x1 : Shape := ⟨4, ![32768, 128, 1, 1]⟩
abbrev S1x1x1x1 : Shape := ⟨4, ![1, 1, 1, 1]⟩
abbrev S32768 : Shape := ⟨1, ![32768]⟩
abbrev S32768x1 : Shape := ⟨2, ![32768, 1]⟩

abbrev nBuf : Space → Nat
  | .hbm => 379
  | .vmem => 0
  | .smem => 0
  | _ => 0

abbrev hbmTy0_0 (i : Nat) : BufTy := match i % 128 with
  | 0 => ⟨S32768x128, .f32⟩
  | 1 => ⟨S128, .f32⟩
  | 2 => ⟨S128x256, .f32⟩
  | 3 => ⟨S256, .f32⟩
  | 4 => ⟨S256x3200, .f32⟩
  | 5 => ⟨S3200, .f32⟩
  | 6 => ⟨S1x128, .f32⟩
  | 7 => ⟨S32768x128, .f32⟩
  | 8 => ⟨S32768x128, .f32⟩
  | 9 => ⟨S_, .f32⟩
  | 10 => ⟨S128, .f32⟩
  | 11 => ⟨S128, .f32⟩
  | 12 => ⟨S1x128, .f32⟩
  | 13 => ⟨S32768x128, .f32⟩
  | 14 => ⟨S32768x128, .f32⟩
  | 15 => ⟨S32768x256, .f32⟩
  | 16 => ⟨S1x256, .f32⟩
  | 17 => ⟨S32768x256, .f32⟩
  | 18 => ⟨S32768x256, .f32⟩
  | 19 => ⟨S_, .f32⟩
  | 20 => ⟨S32768x256, .f32⟩
  | 21 => ⟨S32768x256, .f32⟩
  | 22 => ⟨S32768x3200, .f32⟩
  | 23 => ⟨S1x3200, .f32⟩
  | 24 => ⟨S32768x3200, .f32⟩
  | 25 => ⟨S32768x3200, .f32⟩
  | 26 => ⟨S32768x128x25, .f32⟩
  | 27 => ⟨S32768x128x8, .f32⟩
  | 28 => ⟨S32768x128x8, .f32⟩
  | 29 => ⟨S32768x128x9, .f32⟩
  | 30 => ⟨S_, .f32⟩
  | 31 => ⟨S32768x128, .f32⟩
  | 32 => ⟨S_, .f32⟩
  | 33 => ⟨S32768x128, .f32⟩
  | 34 => ⟨S32768x128, .f32⟩
  | 35 => ⟨S32768x128x1, .f32⟩
  | 36 => ⟨S32768x128x8, .f32⟩
  | 37 => ⟨S32768x128x8, .f32⟩
  | 38 => ⟨S32768x128x8, .f32⟩
  | 39 => ⟨S_, .f32⟩
  | 40 => ⟨S32768x128, .f32⟩
  | 41 => ⟨S32768x128x1, .f32⟩
  | 42 => ⟨S32768x128x8, .f32⟩
  | 43 => ⟨S32768x128x8, .f32⟩
  | 44 => ⟨S_, .f32⟩
  | 45 => ⟨S32768x128x8, .f32⟩
  | 46 => ⟨S32768x128x8, .f32⟩
  | 47 => ⟨S_, .f32⟩
  | 48 => ⟨S32768x128x8, .f32⟩
  | 49 => ⟨S32768x128x8, .f32⟩
  | 50 => ⟨S_, .f32⟩
  | 51 => ⟨S_, .f32⟩
  | 52 => ⟨S32768x128x8, .f32⟩
  | 53 => ⟨S_, .i32⟩
  | 54 => ⟨S_, .f32⟩
  | 55 => ⟨S32768x128x9, .f32⟩
  | 56 => ⟨S_, .f32⟩
  | 57 => ⟨S32768x128x9, .f32⟩
  | 58 => ⟨S32768x128x9, .f32⟩
  | 59 => ⟨S_, .f32⟩
  | 60 => ⟨S32768x128x9, .f32⟩
  | 61 => ⟨S32768x128x9, .f32⟩
  | 62 => ⟨S_, .f32⟩
  | 63 => ⟨S32768x128x9, .f32⟩
  | 64 => ⟨S32768x128x9, .f32⟩
  | 65 => ⟨S_, .f32⟩
  | 66 => ⟨S32768x128, .f32⟩
  | 67 => ⟨S_, .f32⟩
  | 68 => ⟨S32768x128, .f32⟩
  | 69 => ⟨S32768x128, .f32⟩
  | 70 => ⟨S32768x128x1, .f32⟩
  | 71 => ⟨S32768x128x8, .f32⟩
  | 72 => ⟨S32768x128x8, .f32⟩
  | 73 => ⟨S32768x128x8, .f32⟩
  | 74 => ⟨S_, .f32⟩
  | 75 => ⟨S32768x128, .f32⟩
  | 76 => ⟨S32768x128x1, .f32⟩
  | 77 => ⟨S32768x128x8, .f32⟩
  | 78 => ⟨S32768x128x8, .f32⟩
  | 79 => ⟨S_, .f32⟩
  | 80 => ⟨S32768x128x8, .f32⟩
  | 81 => ⟨S32768x128x8, .f32⟩
  | 82 => ⟨S_, .f32⟩
  | 83 => ⟨S32768x128x8, .f32⟩
  | 84 => ⟨S32768x128x8, .f32⟩
  | 85 => ⟨S_, .f32⟩
  | 86 => ⟨S_, .f32⟩
  | 87 => ⟨S32768x128x8, .f32⟩
  | 88 => ⟨S_, .i32⟩
  | 89 => ⟨S_, .f32⟩
  | 90 => ⟨S32768x128x9, .f32⟩
  | 91 => ⟨S_, .f32⟩
  | 92 => ⟨S32768x128x9, .f32⟩
  | 93 => ⟨S32768x128x9, .f32⟩
  | 94 => ⟨S_, .f32⟩
  | 95 => ⟨S32768x128x9, .f32⟩
  | 96 => ⟨S32768x128x9, .f32⟩
  | 97 => ⟨S_, .f32⟩
  | 98 => ⟨S32768x128x9, .f32⟩
  | 99 => ⟨S32768x128x9, .f32⟩
  | 100 => ⟨S_, .f32⟩
  | 101 => ⟨S32768x128x9, .f32⟩
  | 102 => ⟨S32768x128x9, .f32⟩
  | 103 => ⟨S32768x128x9, .f32⟩
  | 104 => ⟨S32768x128x9, .f32⟩
  | 105 => ⟨S32768x128x9, .i1⟩
  | 106 => ⟨S32768x128x9, .f32⟩
  | 107 => ⟨S32768x128x9, .f32⟩
  | 108 => ⟨S32768x128x9, .f32⟩
  | 109 => ⟨S32768x128x9, .f32⟩
  | 110 => ⟨S32768x128x9, .f32⟩
  | 111 => ⟨S32768x128x9, .f32⟩
  | 112 => ⟨S32768x128x9, .f32⟩
  | 113 => ⟨S32768x128x9, .f32⟩
  | 114 => ⟨S_, .f32⟩
  | 115 => ⟨S32768x128x9, .f32⟩
  | 116 => ⟨S32768x128x9, .f32⟩
  | 117 => ⟨S_, .i32⟩
  | 118 => ⟨S1, .i32⟩
  | 119 => ⟨S_, .f32⟩
  | 120 => ⟨S32768x128, .f32⟩
  | 121 => ⟨S32768x128x9, .f32⟩
  | 122 => ⟨S32768x128x1, .f32⟩
  | 123 => ⟨S32768x128x9, .f32⟩
  | 124 => ⟨S32768x128x9, .i1⟩
  | 125 => ⟨S32768x128x9, .i32⟩
  | 126 => ⟨S_, .i32⟩
  | 127 => ⟨S32768x128, .i32⟩
  | _ => ⟨S32768x128, .f32⟩

abbrev hbmTy0_1 (i : Nat) : BufTy := match i % 128 with
  | 0 => ⟨S_, .i32⟩
  | 1 => ⟨S32768x128, .i32⟩
  | 2 => ⟨S32768x128, .i32⟩
  | 3 => ⟨S_, .i32⟩
  | 4 => ⟨S_, .i32⟩
  | 5 => ⟨S_, .i32⟩
  | 6 => ⟨S32768x128, .i32⟩
  | 7 => ⟨S32768x128, .i32⟩
  | 8 => ⟨S_, .i32⟩
  | 9 => ⟨S32768x128, .i32⟩
  | 10 => ⟨S32768x128, .i32⟩
  | 11 => ⟨S32768x128x1, .i32⟩
  | 12 => ⟨S_, .i32⟩
  | 13 => ⟨S32768x128x1, .i32⟩
  | 14 => ⟨S32768x128x1, .i1⟩
  | 15 => ⟨S_, .i32⟩
  | 16 => ⟨S32768x128x1, .i32⟩
  | 17 => ⟨S32768x128x1, .i32⟩
  | 18 => ⟨S32768x128x1, .i32⟩
  | 19 => ⟨S32768x128x1x1, .i32⟩
  | 20 => ⟨S1, .i32⟩
  | 21 => ⟨S_, .i32⟩
  | 22 => ⟨S32768x128x1x1, .i32⟩
  | 23 => ⟨S32768x128x1x1, .i1⟩
  | 24 => ⟨S1x1x1x1, .i32⟩
  | 25 => ⟨S32768x128x1x1, .i32⟩
  | 26 => ⟨S32768x128x1x1, .i1⟩
  | 27 => ⟨S32768x128x1x1, .i1⟩
  | 28 => ⟨S_, .i1⟩
  | 29 => ⟨S32768x128x1, .i1⟩
  | 30 => ⟨S32768x128x1, .f32⟩
  | 31 => ⟨S_, .f32⟩
  | 32 => ⟨S32768x128x1, .f32⟩
  | 33 => ⟨S32768x128x1, .f32⟩
  | 34 => ⟨S32768x128, .f32⟩
  | 35 => ⟨S_, .i32⟩
  | 36 => ⟨S32768x128x1, .i32⟩
  | 37 => ⟨S32768x128x1, .i1⟩
  | 38 => ⟨S_, .i32⟩
  | 39 => ⟨S32768x128x1, .i32⟩
  | 40 => ⟨S32768x128x1, .i32⟩
  | 41 => ⟨S32768x128x1, .i32⟩
  | 42 => ⟨S32768x128x1x1, .i32⟩
  | 43 => ⟨S1, .i32⟩
  | 44 => ⟨S_, .i32⟩
  | 45 => ⟨S32768x128x1x1, .i32⟩
  | 46 => ⟨S32768x128x1x1, .i1⟩
  | 47 => ⟨S1x1x1x1, .i32⟩
  | 48 => ⟨S32768x128x1x1, .i32⟩
  | 49 => ⟨S32768x128x1x1, .i1⟩
  | 50 => ⟨S32768x128x1x1, .i1⟩
  | 51 => ⟨S_, .i1⟩
  | 52 => ⟨S32768x128x1, .i1⟩
  | 53 => ⟨S32768x128x1, .f32⟩
  | 54 => ⟨S_, .f32⟩
  | 55 => ⟨S32768x128x1, .f32⟩
  | 56 => ⟨S32768x128x1, .f32⟩
  | 57 => ⟨S32768x128, .f32⟩
  | 58 => ⟨S_, .i32⟩
  | 59 => ⟨S32768x128x1, .i32⟩
  | 60 => ⟨S32768x128x1, .i1⟩
  | 61 => ⟨S_, .i32⟩
  | 62 => ⟨S32768x128x1, .i32⟩
  | 63 => ⟨S32768x128x1, .i32⟩
  | 64 => ⟨S32768x128x1, .i32⟩
  | 65 => ⟨S32768x128x1x1, .i32⟩
  | 66 => ⟨S1, .i32⟩
  | 67 => ⟨S_, .i32⟩
  | 68 => ⟨S32768x128x1x1, .i32⟩
  | 69 => ⟨S32768x128x1x1, .i1⟩
  | 70 => ⟨S1x1x1x1, .i32⟩
  | 71 => ⟨S32768x128x1x1, .i32⟩
  | 72 => ⟨S32768x128x1x1, .i1⟩
  | 73 => ⟨S32768x128x1x1, .i1⟩
  | 74 => ⟨S_, .i1⟩
  | 75 => ⟨S32768x128x1, .i1⟩
  | 76 => ⟨S32768x128x1, .f32⟩
  | 77 => ⟨S_, .f32⟩
  | 78 => ⟨S32768x128x1, .f32⟩
  | 79 => ⟨S32768x128x1, .f32⟩
  | 80 => ⟨S32768x128, .f32⟩
  | 81 => ⟨S_, .i32⟩
  | 82 => ⟨S32768x128x1, .i32⟩
  | 83 => ⟨S32768x128x1, .i1⟩
  | 84 => ⟨S_, .i32⟩
  | 85 => ⟨S32768x128x1, .i32⟩
  | 86 => ⟨S32768x128x1, .i32⟩
  | 87 => ⟨S32768x128x1, .i32⟩
  | 88 => ⟨S32768x128x1x1, .i32⟩
  | 89 => ⟨S1, .i32⟩
  | 90 => ⟨S_, .i32⟩
  | 91 => ⟨S32768x128x1x1, .i32⟩
  | 92 => ⟨S32768x128x1x1, .i1⟩
  | 93 => ⟨S1x1x1x1, .i32⟩
  | 94 => ⟨S32768x128x1x1, .i32⟩
  | 95 => ⟨S32768x128x1x1, .i1⟩
  | 96 => ⟨S32768x128x1x1, .i1⟩
  | 97 => ⟨S_, .i1⟩
  | 98 => ⟨S32768x128x1, .i1⟩
  | 99 => ⟨S32768x128x1, .f32⟩
  | 100 => ⟨S_, .f32⟩
  | 101 => ⟨S32768x128x1, .f32⟩
  | 102 => ⟨S32768x128x1, .f32⟩
  | 103 => ⟨S32768x128, .f32⟩
  | 104 => ⟨S_, .i32⟩
  | 105 => ⟨S32768x128x1, .i32⟩
  | 106 => ⟨S32768x128x1, .i1⟩
  | 107 => ⟨S_, .i32⟩
  | 108 => ⟨S32768x128x1, .i32⟩
  | 109 => ⟨S32768x128x1, .i32⟩
  | 110 => ⟨S32768x128x1, .i32⟩
  | 111 => ⟨S32768x128x1x1, .i32⟩
  | 112 => ⟨S1, .i32⟩
  | 113 => ⟨S_, .i32⟩
  | 114 => ⟨S32768x128x1x1, .i32⟩
  | 115 => ⟨S32768x128x1x1, .i1⟩
  | 116 => ⟨S1x1x1x1, .i32⟩
  | 117 => ⟨S32768x128x1x1, .i32⟩
  | 118 => ⟨S32768x128x1x1, .i1⟩
  | 119 => ⟨S32768x128x1x1, .i1⟩
  | 120 => ⟨S_, .i1⟩
  | 121 => ⟨S32768x128x1, .i1⟩
  | 122 => ⟨S32768x128x1, .f32⟩
  | 123 => ⟨S_, .f32⟩
  | 124 => ⟨S32768x128x1, .f32⟩
  | 125 => ⟨S32768x128x1, .f32⟩
  | 126 => ⟨S32768x128, .f32⟩
  | 127 => ⟨S_, .f32⟩
  | _ => ⟨S32768x128, .f32⟩

abbrev hbmTy0_2 (i : Nat) : BufTy := match i % 128 with
  | 0 => ⟨S_, .f32⟩
  | 1 => ⟨S_, .f32⟩
  | 2 => ⟨S32768x128, .f32⟩
  | 3 => ⟨S32768x128, .f32⟩
  | 4 => ⟨S_, .f32⟩
  | 5 => ⟨S32768x128, .f32⟩
  | 6 => ⟨S32768x128, .f32⟩
  | 7 => ⟨S_, .i32⟩
  | 8 => ⟨S32768x128x1, .i32⟩
  | 9 => ⟨S32768x128x1, .i32⟩
  | 10 => ⟨S_, .i32⟩
  | 11 => ⟨S32768x128x1, .i32⟩
  | 12 => ⟨S32768x128x1, .i1⟩
  | 13 => ⟨S_, .i32⟩
  | 14 => ⟨S32768x128x1, .i32⟩
  | 15 => ⟨S32768x128x1, .i32⟩
  | 16 => ⟨S32768x128x1, .i32⟩
  | 17 => ⟨S32768x128x1x1, .i32⟩
  | 18 => ⟨S1, .i32⟩
  | 19 => ⟨S_, .i32⟩
  | 20 => ⟨S32768x128x1x1, .i32⟩
  | 21 => ⟨S32768x128x1x1, .i1⟩
  | 22 => ⟨S1x1x1x1, .i32⟩
  | 23 => ⟨S32768x128x1x1, .i32⟩
  | 24 => ⟨S32768x128x1x1, .i1⟩
  | 25 => ⟨S32768x128x1x1, .i1⟩
  | 26 => ⟨S_, .i1⟩
  | 27 => ⟨S32768x128x1, .i1⟩
  | 28 => ⟨S32768x128x1, .f32⟩
  | 29 => ⟨S_, .f32⟩
  | 30 => ⟨S32768x128x1, .f32⟩
  | 31 => ⟨S32768x128x1, .f32⟩
  | 32 => ⟨S32768x128, .f32⟩
  | 33 => ⟨S_, .f32⟩
  | 34 => ⟨S_, .f32⟩
  | 35 => ⟨S_, .f32⟩
  | 36 => ⟨S32768x128, .f32⟩
  | 37 => ⟨S32768x128, .f32⟩
  | 38 => ⟨S_, .f32⟩
  | 39 => ⟨S32768x128, .f32⟩
  | 40 => ⟨S32768x128, .f32⟩
  | 41 => ⟨S32768x128, .f32⟩
  | 42 => ⟨S32768x128, .f32⟩
  | 43 => ⟨S32768x128, .f32⟩
  | 44 => ⟨S_, .f32⟩
  | 45 => ⟨S_, .f32⟩
  | 46 => ⟨S_, .f32⟩
  | 47 => ⟨S32768x128, .f32⟩
  | 48 => ⟨S32768x128, .f32⟩
  | 49 => ⟨S_, .f32⟩
  | 50 => ⟨S32768x128, .f32⟩
  | 51 => ⟨S32768x128, .f32⟩
  | 52 => ⟨S_, .f32⟩
  | 53 => ⟨S32768x128, .f32⟩
  | 54 => ⟨S32768x128, .f32⟩
  | 55 => ⟨S32768x128, .f32⟩
  | 56 => ⟨S32768x128, .f32⟩
  | 57 => ⟨S32768x128, .f32⟩
  | 58 => ⟨S32768x128, .f32⟩
  | 59 => ⟨S32768x128, .f32⟩
  | 60 => ⟨S32768x128, .f32⟩
  | 61 => ⟨S_, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S32768x128, .f32⟩
  | 71 => ⟨S32768x128, .f32⟩
  | 72 => ⟨S32768x128, .f32⟩
  | 73 => ⟨S32768x128, .f32⟩
  | 74 => ⟨S32768x128, .f32⟩
  | 75 => ⟨S32768x128, .f32⟩
  | 76 => ⟨S32768x128, .f32⟩
  | 77 => ⟨S_, .f32⟩
  | 78 => ⟨S32768x128, .f32⟩
  | 79 => ⟨S32768x128, .f32⟩
  | 80 => ⟨S32768x128, .f32⟩
  | 81 => ⟨S32768x128, .f32⟩
  | 82 => ⟨S_, .f32⟩
  | 83 => ⟨S32768x128, .f32⟩
  | 84 => ⟨S32768x128, .f32⟩
  | 85 => ⟨S32768x128, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S_, .f32⟩
  | 92 => ⟨S32768x128, .f32⟩
  | 93 => ⟨S32768x128, .f32⟩
  | 94 => ⟨S32768x128, .f32⟩
  | 95 => ⟨S_, .f32⟩
  | 96 => ⟨S32768x128, .f32⟩
  | 97 => ⟨S32768x128, .i1⟩
  | 98 => ⟨S_, .f32⟩
  | 99 => ⟨S32768x128, .f32⟩
  | 100 => ⟨S32768x128, .i1⟩
  | 101 => ⟨S32768x128, .i1⟩
  | 102 => ⟨S32768x128, .f32⟩
  | 103 => ⟨S_, .f32⟩
  | 104 => ⟨S_, .f32⟩
  | 105 => ⟨S32768x128, .f32⟩
  | 106 => ⟨S32768x128, .f32⟩
  | 107 => ⟨S_, .f32⟩
  | 108 => ⟨S128, .f32⟩
  | 109 => ⟨S128, .f32⟩
  | 110 => ⟨S1x128, .f32⟩
  | 111 => ⟨S32768x128, .f32⟩
  | 112 => ⟨S32768x128, .f32⟩
  | 113 => ⟨S32768x128, .f32⟩
  | 114 => ⟨S_, .f32⟩
  | 115 => ⟨S128, .f32⟩
  | 116 => ⟨S128, .f32⟩
  | 117 => ⟨S1x128, .f32⟩
  | 118 => ⟨S32768x128, .f32⟩
  | 119 => ⟨S32768x128, .f32⟩
  | 120 => ⟨S_, .f32⟩
  | 121 => ⟨S32768, .f32⟩
  | 122 => ⟨S32768x1, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_call1_call0_cst : Ref sig .tc := ⟨.hbm, 50, rfl⟩
abbrev main_call1_call0_v0 : Ref sig .tc := ⟨.hbm, 51, rfl⟩
abbrev main_v36 : Ref sig .tc := ⟨.hbm, 52, rfl⟩
abbrev main_c : Ref sig .tc := ⟨.hbm, 53, rfl⟩
abbrev main_call2_v0 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_call3_call0_cst : Ref sig .tc := ⟨.hbm, 85, rfl⟩
abbrev main_call3_call0_v0 : Ref sig .tc := ⟨.hbm, 86, rfl⟩
abbrev main_v59 : Ref sig .tc := ⟨.hbm, 87, rfl⟩
abbrev main_c_13 : Ref sig .tc := ⟨.hbm, 88, rfl⟩
abbrev main_call4_v0 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_call5_cst : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_v67 : Ref sig .tc := ⟨.hbm, 113, rfl⟩
abbrev main_cst_17 : Ref sig .tc := ⟨.hbm, 114, rfl⟩
abbrev main_v68 : Ref sig .tc := ⟨.hbm, 115, rfl⟩
abbrev main_v69 : Ref sig .tc := ⟨.hbm, 116, rfl⟩
abbrev main_c_18 : Ref sig .tc := ⟨.hbm, 117, rfl⟩
abbrev main_v70 : Ref sig .tc := ⟨.hbm, 118, rfl⟩
abbrev main_cst_19 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_20 : Ref sig .tc := ⟨.hbm, 126, rfl⟩
abbrev main_v77 : Ref sig .tc := ⟨.hbm, 127, rfl⟩
abbrev main_c_21 : Ref sig .tc := ⟨.hbm, 128, rfl⟩
abbrev main_v78 : Ref sig .tc := ⟨.hbm, 129, rfl⟩
abbrev main_v79 : Ref sig .tc := ⟨.hbm, 130, rfl⟩
abbrev main_c_22 : Ref sig .tc := ⟨.hbm, 131, rfl⟩
abbrev main_c_23 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_v80 : Ref sig .tc := ⟨.hbm, 138, rfl⟩
abbrev main_v81 : Ref sig .tc := ⟨.hbm, 139, rfl⟩
abbrev main_call7_c : Ref sig .tc := ⟨.hbm, 140, rfl⟩
abbrev main_call7_v0 : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_c_1 : Ref sig .tc := ⟨.hbm, 148, rfl⟩
abbrev main_call7_c_2 : Ref sig .tc := ⟨.hbm, 149, rfl⟩
abbrev main_call7_v6 : Ref sig .tc := ⟨.hbm, 150, rfl⟩
abbrev main_call7_v7 : Ref sig .tc := ⟨.hbm, 151, rfl⟩
abbrev main_call7_v8 : Ref sig .tc := ⟨.hbm, 152, rfl⟩
abbrev main_call7_v9 : Ref sig .tc := ⟨.hbm, 153, rfl⟩
abbrev main_call7_v10 : Ref sig .tc := ⟨.hbm, 154, rfl⟩
abbrev main_call7_v11 : Ref sig .tc := ⟨.hbm, 155, rfl⟩
abbrev main_call7_c_3 : Ref sig .tc := ⟨.hbm, 156, rfl⟩
abbrev main_call7_v12 : Ref sig .tc := ⟨.hbm, 157, rfl⟩
abbrev main_call7_v13 : Ref sig .tc := ⟨.hbm, 158, rfl⟩
abbrev main_call7_cst : Ref sig .tc := ⟨.hbm, 159, rfl⟩
abbrev main_call7_v14 : Ref sig .tc := ⟨.hbm, 160, rfl⟩
abbrev main_v82 : Ref sig .tc := ⟨.hbm, 161, rfl⟩
abbrev main_v83 : Ref sig .tc := ⟨.hbm, 162, rfl⟩
abbrev main_call8_c : Ref sig .tc := ⟨.hbm, 163, rfl⟩
abbrev main_call8_v0 : Ref sig .tc := ⟨.hbm, 164, rfl⟩
abbrev main_call8_v1 : Ref sig .tc := ⟨.hbm, 165, rfl⟩
abbrev main_call8_c_0 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_call8_v5 : Ref sig .tc := ⟨.hbm, 170, rfl⟩
abbrev main_call8_c_1 : Ref sig .tc := ⟨.hbm, 171, rfl⟩
abbrev main_call8_c_2 : Ref sig .tc := ⟨.hbm, 172, rfl⟩
abbrev main_call8_v6 : Ref sig .tc := ⟨.hbm, 173, rfl⟩
abbrev main_call8_v7 : Ref sig .tc := ⟨.hbm, 174, rfl⟩
abbrev main_call8_v8 : Ref sig .tc := ⟨.hbm, 175, rfl⟩
abbrev main_call8_v9 : Ref sig .tc := ⟨.hbm, 176, rfl⟩
abbrev main_call8_v10 : Ref sig .tc := ⟨.hbm, 177, rfl⟩
abbrev main_call8_v11 : Ref sig .tc := ⟨.hbm, 178, rfl⟩
abbrev main_call8_c_3 : Ref sig .tc := ⟨.hbm, 179, rfl⟩
abbrev main_call8_v12 : Ref sig .tc := ⟨.hbm, 180, rfl⟩
abbrev main_call8_v13 : Ref sig .tc := ⟨.hbm, 181, rfl⟩
abbrev main_call8_cst : Ref sig .tc := ⟨.hbm, 182, rfl⟩
abbrev main_call8_v14 : Ref sig .tc := ⟨.hbm, 183, rfl⟩
abbrev main_v84 : Ref sig .tc := ⟨.hbm, 184, rfl⟩
abbrev main_v85 : Ref sig .tc := ⟨.hbm, 185, rfl⟩
abbrev main_call9_c : Ref sig .tc := ⟨.hbm, 186, rfl⟩
abbrev main_call9_v0 : Ref sig .tc := ⟨.hbm, 187, rfl⟩
abbrev main_call9_v1 : Ref sig .tc := ⟨.hbm, 188, rfl⟩
abbrev main_call9_c_0 : Ref sig .tc := ⟨.hbm, 189, rfl⟩
abbrev main_call9_v2 : Ref sig .tc := ⟨.hbm, 190, rfl⟩
abbrev main_call9_v3 : Ref sig .tc := ⟨.hbm, 191, rfl⟩
abbrev main_call9_v4 : Ref sig .tc := ⟨.hbm, 192, rfl⟩
abbrev main_call9_v5 : Ref sig .tc := ⟨.hbm, 193, rfl⟩
abbrev main_call9_c_1 : Ref sig .tc := ⟨.hbm, 194, rfl⟩
abbrev main_call9_c_2 : Ref sig .tc := ⟨.hbm, 195, rfl⟩
abbrev main_call9_v6 : Ref sig .tc := ⟨.hbm, 196, rfl⟩
abbrev main_call9_v7 : Ref sig .tc := ⟨.hbm, 197, rfl⟩
abbrev main_call9_v8 : Ref sig .tc := ⟨.hbm, 198, rfl⟩
abbrev main_call9_v9 : Ref sig .tc := ⟨.hbm, 199, rfl⟩
abbrev main_call9_v10 : Ref sig .tc := ⟨.hbm, 200, rfl⟩
abbrev main_call9_v11 : Ref sig .tc := ⟨.hbm, 201, rfl⟩
abbrev main_call9_c_3 : Ref sig .tc := ⟨.hbm, 202, rfl⟩
abbrev main_call9_v12 : Ref sig .tc := ⟨.hbm, 203, rfl⟩
abbrev main_call9_v13 : Ref sig .tc := ⟨.hbm, 204, rfl⟩
abbrev main_call9_cst : Ref sig .tc := ⟨.hbm, 205, rfl⟩
abbrev main_call9_v14 : Ref sig .tc := ⟨.hbm, 206, rfl⟩
abbrev main_v86 : Ref sig .tc := ⟨.hbm, 207, rfl⟩
abbrev main_v87 : Ref sig .tc := ⟨.hbm, 208, rfl⟩
abbrev main_call10_c : Ref sig .tc := ⟨.hbm, 209, rfl⟩
abbrev main_call10_v0 : Ref sig .tc := ⟨.hbm, 210, rfl⟩
abbrev main_call10_v1 : Ref sig .tc := ⟨.hbm, 211, rfl⟩
abbrev main_call10_c_0 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_v5 : Ref sig .tc := ⟨.hbm, 216, rfl⟩
abbrev main_call10_c_1 : Ref sig .tc := ⟨.hbm, 217, rfl⟩
abbrev main_call10_c_2 : Ref sig .tc := ⟨.hbm, 218, rfl⟩
abbrev main_call10_v6 : Ref sig .tc := ⟨.hbm, 219, rfl⟩
abbrev main_call10_v7 : Ref sig .tc := ⟨.hbm, 220, rfl⟩
abbrev main_call10_v8 : Ref sig .tc := ⟨.hbm, 221, rfl⟩
abbrev main_call10_v9 : Ref sig .tc := ⟨.hbm, 222, rfl⟩
abbrev main_call10_v10 : Ref sig .tc := ⟨.hbm, 223, rfl⟩
abbrev main_call10_v11 : Ref sig .tc := ⟨.hbm, 224, rfl⟩
abbrev main_call10_c_3 : Ref sig .tc := ⟨.hbm, 225, rfl⟩
abbrev main_call10_v12 : Ref sig .tc := ⟨.hbm, 226, rfl⟩
abbrev main_call10_v13 : Ref sig .tc := ⟨.hbm, 227, rfl⟩
abbrev main_call10_cst : Ref sig .tc := ⟨.hbm, 228, rfl⟩
abbrev main_call10_v14 : Ref sig .tc := ⟨.hbm, 229, rfl⟩
abbrev main_v88 : Ref sig .tc := ⟨.hbm, 230, rfl⟩
abbrev main_v89 : Ref sig .tc := ⟨.hbm, 231, rfl⟩
abbrev main_call11_c : Ref sig .tc := ⟨.hbm, 232, rfl⟩
abbrev main_call11_v0 : Ref sig .tc := ⟨.hbm, 233, rfl⟩
abbrev main_call11_v1 : Ref sig .tc := ⟨.hbm, 234, rfl⟩
abbrev main_call11_c_0 : Ref sig .tc := ⟨.hbm, 235, rfl⟩
abbrev main_call11_v2 : Ref sig .tc := ⟨.hbm, 236, rfl⟩
abbrev main_call11_v3 : Ref sig .tc := ⟨.hbm, 237, rfl⟩
abbrev main_call11_v4 : Ref sig .tc := ⟨.hbm, 238, rfl⟩
abbrev main_call11_v5 : Ref sig .tc := ⟨.hbm, 239, rfl⟩
abbrev main_call11_c_1 : Ref sig .tc := ⟨.hbm, 240, rfl⟩
abbrev main_call11_c_2 : Ref sig .tc := ⟨.hbm, 241, rfl⟩
abbrev main_call11_v6 : Ref sig .tc := ⟨.hbm, 242, rfl⟩
abbrev main_call11_v7 : Ref sig .tc := ⟨.hbm, 243, rfl⟩
abbrev main_call11_v8 : Ref sig .tc := ⟨.hbm, 244, rfl⟩
abbrev main_call11_v9 : Ref sig .tc := ⟨.hbm, 245, rfl⟩
abbrev main_call11_v10 : Ref sig .tc := ⟨.hbm, 246, rfl⟩
abbrev main_call11_v11 : Ref sig .tc := ⟨.hbm, 247, rfl⟩
abbrev main_call11_c_3 : Ref sig .tc := ⟨.hbm, 248, rfl⟩
abbrev main_call11_v12 : Ref sig .tc := ⟨.hbm, 249, rfl⟩
abbrev main_call11_v13 : Ref sig .tc := ⟨.hbm, 250, rfl⟩
abbrev main_call11_cst : Ref sig .tc := ⟨.hbm, 251, rfl⟩
abbrev main_call11_v14 : Ref sig .tc := ⟨.hbm, 252, rfl⟩
abbrev main_v90 : Ref sig .tc := ⟨.hbm, 253, rfl⟩
abbrev main_v91 : Ref sig .tc := ⟨.hbm, 254, rfl⟩
abbrev main_cst_24 : Ref sig .tc := ⟨.hbm, 255, rfl⟩
abbrev main_cst_25 : Ref sig .tc := ⟨.hbm, 256, rfl⟩
abbrev main_call12_v0 : Ref sig .tc := ⟨.hbm, 257, rfl⟩
abbrev main_call12_v1 : Ref sig .tc := ⟨.hbm, 258, rfl⟩
abbrev main_call12_v2 : Ref sig .tc := ⟨.hbm, 259, rfl⟩
abbrev main_call12_v3 : Ref sig .tc := ⟨.hbm, 260, rfl⟩
abbrev main_call12_v4 : Ref sig .tc := ⟨.hbm, 261, rfl⟩
abbrev main_v92 : Ref sig .tc := ⟨.hbm, 262, rfl⟩
abbrev main_c_26 : Ref sig .tc := ⟨.hbm, 263, rfl⟩
abbrev main_v93 : Ref sig .tc := ⟨.hbm, 264, rfl⟩
abbrev main_v94 : Ref sig .tc := ⟨.hbm, 265, rfl⟩
abbrev main_call13_c : Ref sig .tc := ⟨.hbm, 266, rfl⟩
abbrev main_call13_v0 : Ref sig .tc := ⟨.hbm, 267, rfl⟩
abbrev main_call13_v1 : Ref sig .tc := ⟨.hbm, 268, rfl⟩
abbrev main_call13_c_0 : Ref sig .tc := ⟨.hbm, 269, rfl⟩
abbrev main_call13_v2 : Ref sig .tc := ⟨.hbm, 270, rfl⟩
abbrev main_call13_v3 : Ref sig .tc := ⟨.hbm, 271, rfl⟩
abbrev main_call13_v4 : Ref sig .tc := ⟨.hbm, 272, rfl⟩
abbrev main_call13_v5 : Ref sig .tc := ⟨.hbm, 273, rfl⟩
abbrev main_call13_c_1 : Ref sig .tc := ⟨.hbm, 274, rfl⟩
abbrev main_call13_c_2 : Ref sig .tc := ⟨.hbm, 275, rfl⟩
abbrev main_call13_v6 : Ref sig .tc := ⟨.hbm, 276, rfl⟩
abbrev main_call13_v7 : Ref sig .tc := ⟨.hbm, 277, rfl⟩
abbrev main_call13_v8 : Ref sig .tc := ⟨.hbm, 278, rfl⟩
abbrev main_call13_v9 : Ref sig .tc := ⟨.hbm, 279, rfl⟩
abbrev main_call13_v10 : Ref sig .tc := ⟨.hbm, 280, rfl⟩
abbrev main_call13_v11 : Ref sig .tc := ⟨.hbm, 281, rfl⟩
abbrev main_call13_c_3 : Ref sig .tc := ⟨.hbm, 282, rfl⟩
abbrev main_call13_v12 : Ref sig .tc := ⟨.hbm, 283, rfl⟩
abbrev main_call13_v13 : Ref sig .tc := ⟨.hbm, 284, rfl⟩
abbrev main_call13_cst : Ref sig .tc := ⟨.hbm, 285, rfl⟩
abbrev main_call13_v14 : Ref sig .tc := ⟨.hbm, 286, rfl⟩
abbrev main_v95 : Ref sig .tc := ⟨.hbm, 287, rfl⟩
abbrev main_v96 : Ref sig .tc := ⟨.hbm, 288, rfl⟩
abbrev main_cst_27 : Ref sig .tc := ⟨.hbm, 289, rfl⟩
abbrev main_cst_28 : Ref sig .tc := ⟨.hbm, 290, rfl⟩
abbrev main_call14_v0 : Ref sig .tc := ⟨.hbm, 291, rfl⟩
abbrev main_call14_v1 : Ref sig .tc := ⟨.hbm, 292, rfl⟩
abbrev main_call14_v2 : Ref sig .tc := ⟨.hbm, 293, rfl⟩
abbrev main_call14_v3 : Ref sig .tc := ⟨.hbm, 294, rfl⟩
abbrev main_call14_v4 : Ref sig .tc := ⟨.hbm, 295, rfl⟩
abbrev main_v97 : Ref sig .tc := ⟨.hbm, 296, rfl⟩
abbrev main_v98 : Ref sig .tc := ⟨.hbm, 297, rfl⟩
abbrev main_v99 : Ref sig .tc := ⟨.hbm, 298, rfl⟩
abbrev main_v100 : Ref sig .tc := ⟨.hbm, 299, rfl⟩
abbrev main_cst_29 : Ref sig .tc := ⟨.hbm, 300, rfl⟩
abbrev main_cst_30 : Ref sig .tc := ⟨.hbm, 301, rfl⟩
abbrev main_call15_v0 : Ref sig .tc := ⟨.hbm, 302, rfl⟩
abbrev main_call15_v1 : Ref sig .tc := ⟨.hbm, 303, rfl⟩
abbrev main_call15_v2 : Ref sig .tc := ⟨.hbm, 304, rfl⟩
abbrev main_call15_v3 : Ref sig .tc := ⟨.hbm, 305, rfl⟩
abbrev main_call15_v4 : Ref sig .tc := ⟨.hbm, 306, rfl⟩
abbrev main_v101 : Ref sig .tc := ⟨.hbm, 307, rfl⟩
abbrev main_cst_31 : Ref sig .tc := ⟨.hbm, 308, rfl⟩
abbrev main_v102 : Ref sig .tc := ⟨.hbm, 309, rfl⟩
abbrev main_v103 : Ref sig .tc := ⟨.hbm, 310, rfl⟩
abbrev main_v104 : Ref sig .tc := ⟨.hbm, 311, rfl⟩
abbrev main_v105 : Ref sig .tc := ⟨.hbm, 312, rfl⟩
abbrev main_v106 : Ref sig .tc := ⟨.hbm, 313, rfl⟩
abbrev main_v107 : Ref sig .tc := ⟨.hbm, 314, rfl⟩
abbrev main_v108 : Ref sig .tc := ⟨.hbm, 315, rfl⟩
abbrev main_v109 : Ref sig .tc := ⟨.hbm, 316, rfl⟩
abbrev main_cst_32 : Ref sig .tc := ⟨.hbm, 317, rfl⟩
abbrev main_v110 : Ref sig .tc := ⟨.hbm, 318, rfl⟩
abbrev main_v111 : Ref sig .tc := ⟨.hbm, 319, rfl⟩
abbrev main_v112 : Ref sig .tc := ⟨.hbm, 320, rfl⟩
abbrev main_v113 : Ref sig .tc := ⟨.hbm, 321, rfl⟩
abbrev main_v114 : Ref sig .tc := ⟨.hbm, 322, rfl⟩
abbrev main_cst_33 : Ref sig .tc := ⟨.hbm, 323, rfl⟩
abbrev main_v115 : Ref sig .tc := ⟨.hbm, 324, rfl⟩
abbrev main_v116 : Ref sig .tc := ⟨.hbm, 325, rfl⟩
abbrev main_v117 : Ref sig .tc := ⟨.hbm, 326, rfl⟩
abbrev main_v118 : Ref sig .tc := ⟨.hbm, 327, rfl⟩
abbrev main_v119 : Ref sig .tc := ⟨.hbm, 328, rfl⟩
abbrev main_v120 : Ref sig .tc := ⟨.hbm, 329, rfl⟩
abbrev main_v121 : Ref sig .tc := ⟨.hbm, 330, rfl⟩
abbrev main_v122 : Ref sig .tc := ⟨.hbm, 331, rfl⟩
abbrev main_v123 : Ref sig .tc := ⟨.hbm, 332, rfl⟩
abbrev main_cst_34 : Ref sig .tc := ⟨.hbm, 333, rfl⟩
abbrev main_v124 : Ref sig .tc := ⟨.hbm, 334, rfl⟩
abbrev main_v125 : Ref sig .tc := ⟨.hbm, 335, rfl⟩
abbrev main_v126 : Ref sig .tc := ⟨.hbm, 336, rfl⟩
abbrev main_v127 : Ref sig .tc := ⟨.hbm, 337, rfl⟩
abbrev main_cst_35 : Ref sig .tc := ⟨.hbm, 338, rfl⟩
abbrev main_v128 : Ref sig .tc := ⟨.hbm, 339, rfl⟩
abbrev main_v129 : Ref sig .tc := ⟨.hbm, 340, rfl⟩
abbrev main_v130 : Ref sig .tc := ⟨.hbm, 341, rfl⟩
abbrev main_v131 : Ref sig .tc := ⟨.hbm, 342, rfl⟩
abbrev main_v132 : Ref sig .tc := ⟨.hbm, 343, rfl⟩
abbrev main_v133 : Ref sig .tc := ⟨.hbm, 344, rfl⟩
abbrev main_v134 : Ref sig .tc := ⟨.hbm, 345, rfl⟩
abbrev main_v135 : Ref sig .tc := ⟨.hbm, 346, rfl⟩
abbrev main_cst_36 : Ref sig .tc := ⟨.hbm, 347, rfl⟩
abbrev main_v136 : Ref sig .tc := ⟨.hbm, 348, rfl⟩
abbrev main_v137 : Ref sig .tc := ⟨.hbm, 349, rfl⟩
abbrev main_v138 : Ref sig .tc := ⟨.hbm, 350, rfl⟩
abbrev main_cst_37 : Ref sig .tc := ⟨.hbm, 351, rfl⟩
abbrev main_v139 : Ref sig .tc := ⟨.hbm, 352, rfl⟩
abbrev main_v140 : Ref sig .tc := ⟨.hbm, 353, rfl⟩
abbrev main_cst_38 : Ref sig .tc := ⟨.hbm, 354, rfl⟩
abbrev main_v141 : Ref sig .tc := ⟨.hbm, 355, rfl⟩
abbrev main_v142 : Ref sig .tc := ⟨.hbm, 356, rfl⟩
abbrev main_v143 : Ref sig .tc := ⟨.hbm, 357, rfl⟩
abbrev main_v144 : Ref sig .tc := ⟨.hbm, 358, rfl⟩
abbrev main_cst_39 : Ref sig .tc := ⟨.hbm, 359, rfl⟩
abbrev main_call17_v0 : Ref sig .tc := ⟨.hbm, 360, rfl⟩
abbrev main_call17_v1 : Ref sig .tc := ⟨.hbm, 361, rfl⟩
abbrev main_v145 : Ref sig .tc := ⟨.hbm, 362, rfl⟩
abbrev main_cst_40 : Ref sig .tc := ⟨.hbm, 363, rfl⟩
abbrev main_v146 : Ref sig .tc := ⟨.hbm, 364, rfl⟩
abbrev main_v147 : Ref sig .tc := ⟨.hbm, 365, rfl⟩
abbrev main_v148 : Ref sig .tc := ⟨.hbm, 366, rfl⟩
abbrev main_v149 : Ref sig .tc := ⟨.hbm, 367, rfl⟩
abbrev main_v150 : Ref sig .tc := ⟨.hbm, 368, rfl⟩
abbrev main_v151 : Ref sig .tc := ⟨.hbm, 369, rfl⟩
abbrev main_cst_41 : Ref sig .tc := ⟨.hbm, 370, rfl⟩
abbrev main_v152 : Ref sig .tc := ⟨.hbm, 371, rfl⟩
abbrev main_v153 : Ref sig .tc := ⟨.hbm, 372, rfl⟩
abbrev main_v154 : Ref sig .tc := ⟨.hbm, 373, rfl⟩
abbrev main_v155 : Ref sig .tc := ⟨.hbm, 374, rfl⟩
abbrev main_v156 : Ref sig .tc := ⟨.hbm, 375, rfl⟩
abbrev main_cst_42 : Ref sig .tc := ⟨.hbm, 376, rfl⟩
abbrev main_v157 : Ref sig .tc := ⟨.hbm, 377, rfl⟩
abbrev main_v158 : Ref sig .tc := ⟨.hbm, 378, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.IdealHost

@[expose] public section

noncomputable section

/-! Eight numbers made into bin widths: the kernel's way and the reference's, over the extended
reals, and that the two agree when the eight numbers are finite. -/

namespace Cert.Spline

open Idealize.ShloMosaic

/-- The extended real that a 32-bit float pattern denotes. -/
abbrev lit (b : BitVec 32) : EReal := Ideal.ofBits .f32 b

/-- A number that is neither infinity. -/
def Finite (x : EReal) : Prop := x ≠ ⊥ ∧ x ≠ ⊤

/-! ### The literals -/

/-- The pattern of -3. -/
theorem lit_neg_three : lit 0xC0400000#32 = ((-3 : ℝ) : EReal) := by
  simp [Ideal.ofBits, Ideal.ieee, -EReal.coe_mul, -EReal.coe_neg]; norm_num

/-- The pattern of one half. -/
theorem lit_half : lit 0x3F000000#32 = ((1 / 2 : ℝ) : EReal) := by
  simp [Ideal.ofBits, Ideal.ieee, -EReal.coe_mul, -EReal.coe_neg]; norm_num

/-- The pattern of 2. -/
theorem lit_two : lit 0x40000000#32 = ((2 : ℝ) : EReal) := by
  simp [Ideal.ofBits, Ideal.ieee, -EReal.coe_mul, -EReal.coe_neg]; norm_num

/-- The pattern of 3. -/
theorem lit_three : lit 0x40400000#32 = ((3 : ℝ) : EReal) := by
  simp [Ideal.ofBits, Ideal.ieee, -EReal.coe_mul, -EReal.coe_neg]; norm_num

/-- The pattern of 4. -/
theorem lit_four : lit 0x40800000#32 = ((4 : ℝ) : EReal) := by
  simp [Ideal.ofBits, Ideal.ieee, -EReal.coe_mul, -EReal.coe_neg]; norm_num

/-- The pattern of 5. -/
theorem lit_five : lit 0x40A00000#32 = ((5 : ℝ) : EReal) := by
  simp [Ideal.ofBits, Ideal.ieee, -EReal.coe_mul, -EReal.coe_neg]; norm_num

/-- The pattern of 6. -/
theorem lit_six : lit 0x40C00000#32 = ((6 : ℝ) : EReal) := by
  simp [Ideal.ofBits, Ideal.ieee, -EReal.coe_mul, -EReal.coe_neg]; norm_num

/-- The pattern of 7. -/
theorem lit_seven : lit 0x40E00000#32 = ((7 : ℝ) : EReal) := by
  simp [Ideal.ofBits, Ideal.ieee, -EReal.coe_mul, -EReal.coe_neg]; norm_num

/-- The least bin width is positive. -/
theorem lit_min_pos : 0 < lit 0x3A83126F#32 := by
  simp [Ideal.ofBits, Ideal.ieee, -EReal.coe_mul, -EReal.coe_neg]

/-- The share left to the softmax is not negative. -/
theorem lit_share_nonneg : 0 ≤ lit 0x3F7DF3B6#32 := by
  simp [Ideal.ofBits, Ideal.ieee, -EReal.coe_mul, -EReal.coe_neg]

/-- The floor under the denominator is positive. -/
theorem lit_floor_pos : 0 < lit 0x358637BD#32 := by
  simp [Ideal.ofBits, Ideal.ieee, -EReal.coe_mul, -EReal.coe_neg]

/-- The pattern of minus infinity. -/
theorem lit_neg_inf : lit 0xFF800000#32 = ⊥ := by
  simp [Ideal.ofBits, Ideal.ieee]

/-- The pattern of plus infinity. -/
theorem lit_inf : lit 0x7F800000#32 = ⊤ := by
  simp [Ideal.ofBits, Ideal.ieee]

/-! ### The kernel's widths and edges -/

/-- The greatest of the eight numbers, by the kernel's chain of maxima. -/
def kMax (u : Fin 8 → EReal) : EReal :=
  max (max (max (max (max (max (max (u 0) (u 1)) (u 2)) (u 3)) (u 4)) (u 5)) (u 6)) (u 7)

/-- The exponential of a number less the greatest. -/
def kExp (u : Fin 8 → EReal) (k : Fin 8) : EReal := Ideal.exp (u k - kMax u)

/-- The sum of the eight exponentials, from the left. -/
def kSum (u : Fin 8 → EReal) : EReal :=
  kExp u 0 + kExp u 1 + kExp u 2 + kExp u 3 + kExp u 4 + kExp u 5 + kExp u 6 + kExp u 7

/-- A bin's width: the least width plus the exponential times (the share over the sum). -/
def kWidth (u : Fin 8 → EReal) (k : Fin 8) : EReal :=
  lit 0x3A83126F#32 + kExp u k * Ideal.div (lit 0x3F7DF3B6#32) (kSum u)

/-- A running sum of widths, moved and stretched onto [-3, 3]. -/
def kPlace (s : EReal) : EReal := (s - lit 0x3F000000#32) * lit 0x40C00000#32

/-- The nine bin edges from the eight widths. -/
def kEdge (w : Fin 8 → EReal) : Fin 9 → EReal :=
  ![lit 0xC0400000#32, kPlace (w 0), kPlace (w 0 + w 1), kPlace (w 0 + w 1 + w 2),
    kPlace (w 0 + w 1 + w 2 + w 3), kPlace (w 0 + w 1 + w 2 + w 3 + w 4),
    kPlace (w 0 + w 1 + w 2 + w 3 + w 4 + w 5), kPlace (w 0 + w 1 + w 2 + w 3 + w 4 + w 5 + w 6),
    kPlace (w 0 + w 1 + w 2 + w 3 + w 4 + w 5 + w 6 + w 7)]

/-! ### The reference's widths and edges -/

/-- The greatest of the eight numbers. -/
def rMax (u : Fin 8 → EReal) : EReal := Finset.univ.sup u

/-- The exponential of a number less the greatest. -/
def rExp (u : Fin 8 → EReal) (k : Fin 8) : EReal := Ideal.exp (u k - rMax u)

/-- A bin's width: the least width plus the share of the softmax. -/
def rWidth (u : Fin 8 → EReal) (k : Fin 8) : EReal :=
  lit 0x3A83126F#32 + lit 0x3F7DF3B6#32 * Ideal.div (rExp u k) (∑ j, rExp u j)

/-- The nine bin edges: the sum of the widths below an edge, less a half, times two, times three. -/
def rEdge (w : Fin 8 → EReal) (k : Fin 9) : EReal :=
  ((∑ j : Fin 8, if j.val < k.val then w j else 0) - lit 0x3F000000#32) * lit 0x40000000#32
    * lit 0x40400000#32

/-! ### They agree -/

/-- The chain of maxima is the greatest of the eight. -/
theorem kMax_eq (u : Fin 8 → EReal) : kMax u = rMax u := by
  unfold kMax rMax
  apply le_antisymm
  · simp only [max_le_iff]
    exact ⟨⟨⟨⟨⟨⟨⟨Finset.le_sup (Finset.mem_univ _), Finset.le_sup (Finset.mem_univ _)⟩,
      Finset.le_sup (Finset.mem_univ _)⟩, Finset.le_sup (Finset.mem_univ _)⟩,
      Finset.le_sup (Finset.mem_univ _)⟩, Finset.le_sup (Finset.mem_univ _)⟩,
      Finset.le_sup (Finset.mem_univ _)⟩, Finset.le_sup (Finset.mem_univ _)⟩
  · refine Finset.sup_le fun k _ => ?_
    fin_cases k <;> simp [le_max_iff]

/-- The kernel's exponentials are the reference's. -/
theorem kExp_eq (u : Fin 8 → EReal) (k : Fin 8) : kExp u k = rExp u k := by
  rw [kExp, rExp, kMax_eq]

/-- The kernel's sum is the reference's. -/
theorem kSum_eq (u : Fin 8 → EReal) : kSum u = ∑ j, rExp u j := by
  simp only [kSum, kExp_eq, Fin.sum_univ_eight]

/-- An exponential is not negative. -/
theorem exp_nonneg (x : EReal) : 0 ≤ Ideal.exp x := by
  induction x using EReal.rec with
  | bot => simp
  | coe r => simpa using EReal.coe_nonneg.mpr (Real.exp_pos r).le
  | top => simp

/-- The exponential of a finite number is positive. -/
theorem exp_pos {x : EReal} (h : Finite x) : 0 < Ideal.exp x := by
  induction x using EReal.rec with
  | bot => exact absurd rfl h.1
  | coe r => simpa using EReal.coe_pos.mpr (Real.exp_pos r)
  | top => exact absurd rfl h.2

/-- The greatest of eight finite numbers is one of them. -/
theorem rMax_mem (u : Fin 8 → EReal) : ∃ k, rMax u = u k := by
  obtain ⟨k, _, hk⟩ := Finset.exists_mem_eq_sup Finset.univ Finset.univ_nonempty u
  exact ⟨k, hk⟩

/-- The difference of two finite numbers is finite. -/
theorem Finite.sub {x y : EReal} (hx : Finite x) (hy : Finite y) : Finite (x - y) := by
  lift x to ℝ using ⟨hx.2, hx.1⟩
  lift y to ℝ using ⟨hy.2, hy.1⟩
  rw [← EReal.coe_sub]
  exact ⟨EReal.coe_ne_bot _, EReal.coe_ne_top _⟩

/-- The sum of the exponentials of finite numbers is positive. -/
theorem sum_pos {u : Fin 8 → EReal} (h : ∀ k, Finite (u k)) : 0 < ∑ j, rExp u j := by
  obtain ⟨k, hk⟩ := rMax_mem u
  refine lt_of_lt_of_le (exp_pos (x := u 0 - rMax u) ((h 0).sub (hk ▸ h k))) ?_
  exact Finset.single_le_sum (f := fun j => rExp u j) (fun j _ => exp_nonneg _) (Finset.mem_univ 0)

/-- Division by a number that is not zero is multiplication by its inverse. -/
theorem div_of_ne {x y : EReal} (h : y ≠ 0) : Ideal.div x y = x * y⁻¹ := by
  rw [Ideal.div, if_neg h]

/-- The kernel's widths are the reference's, for finite numbers. -/
theorem kWidth_eq {u : Fin 8 → EReal} (h : ∀ k, Finite (u k)) : kWidth u = rWidth u := by
  funext k
  have hs : (∑ j, rExp u j) ≠ 0 := (sum_pos h).ne'
  rw [kWidth, rWidth, kExp_eq, kSum_eq, div_of_ne hs, div_of_ne hs, mul_left_comm]

/-- A width is positive, for finite numbers. -/
theorem rWidth_pos {u : Fin 8 → EReal} (h : ∀ k, Finite (u k)) (k : Fin 8) : 0 < rWidth u k := by
  have hs := sum_pos h
  rw [rWidth, div_of_ne hs.ne']
  refine lt_of_lt_of_le lit_min_pos ?_
  refine le_add_of_nonneg_right (mul_nonneg lit_share_nonneg (mul_nonneg (exp_nonneg _) ?_))
  exact EReal.inv_nonneg_of_nonneg hs.le

/-- The reference's two factors are the kernel's one. -/
theorem kPlace_eq (s : EReal) :
    (s - lit 0x3F000000#32) * lit 0x40000000#32 * lit 0x40400000#32 = kPlace s := by
  rw [kPlace, mul_assoc, lit_two, lit_three, lit_six, ← EReal.coe_mul]
  norm_num

/-- The kernel's edges are the reference's. -/
theorem kEdge_eq (w : Fin 8 → EReal) : kEdge w = rEdge w := by
  funext k
  rw [rEdge, kPlace_eq]
  fin_cases k <;> simp [kEdge, Fin.sum_univ_eight]
  rw [kPlace, lit_neg_three, lit_half, lit_six, ← EReal.coe_zero, ← EReal.coe_sub, ← EReal.coe_mul]
  norm_num

end Cert.Spline

end
-- ==== Proof.Index.lean ====
module

public import proofs.«01_k».proof.Proof.Softmax
public import Idealize.ShloMosaic.PureOps

@[expose] public section

noncomputable section

/-! Which bin a point lies in, and the choice of a bin's numbers: the kernel counts in floats and
picks by a chain of selects; the reference counts edges and picks by the number of the bin. -/

namespace Cert.Spline

open Idealize.ShloMosaic

/-- One where the edge is at most the point, else zero, as the kernel writes it. -/
def kStep (x e : EReal) : EReal :=
  Scalar.select (Ideal.cmp .oge x e) (lit 0x3F800000#32) (lit 0x00000000#32)

/-- The kernel's count of the edges at or below the point. -/
def kCount (x : EReal) (e : Fin 9 → EReal) : EReal :=
  lit 0x00000000#32 + kStep x (e 0) + kStep x (e 1) + kStep x (e 2) + kStep x (e 3) + kStep x (e 4)
    + kStep x (e 5) + kStep x (e 6) + kStep x (e 7) + kStep x (e 8)

/-- The kernel's bin number: the count less one, kept within 0 and 7. -/
def kBinNo (x : EReal) (e : Fin 9 → EReal) : EReal :=
  min (lit 0x40E00000#32) (max (lit 0x00000000#32) (kCount x e - lit 0x3F800000#32))

/-- One of eight numbers, by the kernel's chain of selects on the bin number. -/
def kPick (i : EReal) (f : Fin 8 → EReal) : EReal :=
  Scalar.select (Ideal.cmp .oge i (lit 0x40E00000#32)) (f 7)
    (Scalar.select (Ideal.cmp .oge i (lit 0x40C00000#32)) (f 6)
      (Scalar.select (Ideal.cmp .oge i (lit 0x40A00000#32)) (f 5)
        (Scalar.select (Ideal.cmp .oge i (lit 0x40800000#32)) (f 4)
          (Scalar.select (Ideal.cmp .oge i (lit 0x40400000#32)) (f 3)
            (Scalar.select (Ideal.cmp .oge i (lit 0x40000000#32)) (f 2)
              (Scalar.select (Ideal.cmp .oge i (lit 0x3F800000#32)) (f 1) (f 0)))))))

/-- The count of the edges at or below the point. -/
def rCount (x : EReal) (e : Fin 9 → EReal) : ℕ := ∑ k, if e k ≤ x then 1 else 0

/-- The bin number: the count less one, at most 7. -/
def rBinNo (x : EReal) (e : Fin 9 → EReal) : Fin 8 := ⟨min 7 (rCount x e - 1), by omega⟩

/-- A select on a comparison reads as an `if`. -/
theorem select_oge (x e a b : EReal) : Scalar.select (Ideal.cmp .oge x e) a b = if e ≤ x then a else b := by
  unfold Scalar.select Ideal.cmp
  by_cases h : e ≤ x <;> simp [h]

/-- The step is a natural number, zero or one. -/
theorem kStep_eq (x e : EReal) : kStep x e = (((if e ≤ x then 1 else 0 : ℕ) : ℝ) : EReal) := by
  rw [kStep, select_oge]
  split <;> simp [lit]

/-- The kernel's count is the number of edges. -/
theorem kCount_eq (x : EReal) (e : Fin 9 → EReal) : kCount x e = ((rCount x e : ℝ) : EReal) := by
  simp only [kCount, kStep_eq, rCount, Fin.sum_univ_succ, Fin.sum_univ_zero]
  simp only [lit, Ideal.ofBits_zero_f32, zero_add, ← EReal.coe_add, ← Nat.cast_add]
  congr 2
  simp [add_assoc]

/-- The kernel's bin number is the reference's. -/
theorem kBinNo_eq (x : EReal) (e : Fin 9 → EReal) : kBinNo x e = (((rBinNo x e).val : ℝ) : EReal) := by
  rw [kBinNo, kCount_eq, lit_seven]
  simp only [lit, Ideal.ofBits_zero_f32, Ideal.ofBits_one_f32]
  rw [← EReal.coe_one, ← EReal.coe_zero, ← EReal.coe_sub, ← EReal.coe_strictMono.monotone.map_max,
    ← EReal.coe_strictMono.monotone.map_min]
  congr 1
  simp only [rBinNo]
  generalize rCount x e = n
  rcases n with _ | n
  · norm_num
  · push_cast
    have : (0 : ℝ) ≤ n := Nat.cast_nonneg n
    simp [this]

/-- The chain of selects picks the number of the bin. -/
theorem kPick_eq (i : Fin 8) (f : Fin 8 → EReal) : kPick ((i.val : ℝ) : EReal) f = f i := by
  simp only [kPick, select_oge, lit_two, lit_three, lit_four, lit_five, lit_six, lit_seven]
  simp only [lit, Ideal.ofBits_one_f32]
  rw [← EReal.coe_one]
  simp only [EReal.coe_le_coe_iff]
  fin_cases i <;> norm_num <;> rfl

/-- The number of the next edge. -/
theorem rBinNo_lt (x : EReal) (e : Fin 9 → EReal) : (rBinNo x e).val < 8 := (rBinNo x e).isLt

end Cert.Spline

end
-- ==== Proof.Spline.lean ====
module

public import proofs.«01_k».proof.Proof.Index

@[expose] public section

noncomputable section

/-! The rational-quadratic spline at one point: the kernel's value and log-derivative, the
reference's, and that they agree when the twenty-five parameters are finite. -/

namespace Cert.Spline

open Idealize.ShloMosaic

/-- The numbers of one bin: its left edge, width, lower value, height, and the two slopes. -/
structure Bin where
  /-- the left edge -/
  cw : EReal
  /-- the width -/
  ww : EReal
  /-- the value at the left edge -/
  ch : EReal
  /-- the height -/
  hh : EReal
  /-- the slope at the left edge -/
  di : EReal
  /-- the slope at the right edge -/
  di1 : EReal

/-- A slope from its parameter: softplus plus the least slope. -/
def slope (u : EReal) : EReal :=
  max u 0 + Ideal.log1p (Ideal.exp (-max u (-u))) + lit 0x3A83126F#32

/-- A slope as the kernel writes it, with a select for the case that the parameter is no number. -/
def kSlopeOf (u : EReal) : EReal :=
  Scalar.select (Ideal.cmp .one (u - lit 0x00000000#32) (u - lit 0x00000000#32)) (u + lit 0x00000000#32)
    (max u (lit 0x00000000#32) + Ideal.log1p (Ideal.exp (lit 0x00000000#32
      - max (u - lit 0x00000000#32) (-(u - lit 0x00000000#32))))) + lit 0x3A83126F#32

/-- The kernel's slope is the slope. -/
theorem kSlopeOf_eq (u : EReal) : kSlopeOf u = slope u := by
  have h : lit 0x00000000#32 = 0 := Ideal.ofBits_zero_f32
  simp only [kSlopeOf, slope, h, sub_zero, zero_sub, add_zero]
  simp [Scalar.select, Ideal.cmp]

/-- A number kept within the least slope and 1000. -/
def clampSlope (d : EReal) : EReal := min (lit 0x447A0000#32) (max (lit 0x3A83126F#32) d)

/-- The eight parameters of the widths. -/
def uW (u : Fin 25 → EReal) (k : Fin 8) : EReal := u ⟨k.val, by omega⟩

/-- The eight parameters of the heights. -/
def uH (u : Fin 25 → EReal) (k : Fin 8) : EReal := u ⟨8 + k.val, by omega⟩

/-- The nine parameters of the slopes. -/
def uD (u : Fin 25 → EReal) (k : Fin 9) : EReal := u ⟨16 + k.val, by omega⟩

/-- The edges with the last one moved up by the floor, so that the right end falls in a bin. -/
def lastUp (e : Fin 9 → EReal) (k : Fin 9) : EReal := if k = 8 then e k + lit 0x358637BD#32 else e k

/-- The point's bin, as the kernel finds it. -/
def kBin (x : EReal) (u : Fin 25 → EReal) : Bin :=
  let i := kBinNo x (lastUp (kEdge (kWidth (uW u))))
  { cw := kPick i (fun k => kEdge (kWidth (uW u)) k.castSucc)
    ww := kPick i (kWidth (uW u))
    ch := kPick i (fun k => kEdge (kWidth (uH u)) k.castSucc)
    hh := kPick i (kWidth (uH u))
    di := clampSlope (kPick i fun k => slope (uD u k.castSucc))
    di1 := clampSlope (kPick i fun k => slope (uD u k.succ)) }

/-- The point's bin, as the reference finds it. -/
def rBin (x : EReal) (u : Fin 25 → EReal) : Bin :=
  let i := rBinNo x (lastUp (rEdge (rWidth (uW u))))
  { cw := lastUp (rEdge (rWidth (uW u))) i.castSucc
    ww := rWidth (uW u) i
    ch := rEdge (rWidth (uH u)) i.castSucc
    hh := rWidth (uH u) i
    di := clampSlope (slope (uD u i.castSucc))
    di1 := clampSlope (slope (uD u i.succ)) }

/-- The two find the same bin. -/
theorem kBin_eq (x : EReal) {u : Fin 25 → EReal} (h : ∀ k, Finite (u k)) : kBin x u = rBin x u := by
  have hw : kWidth (uW u) = rWidth (uW u) := kWidth_eq fun k => h _
  have hh : kWidth (uH u) = rWidth (uH u) := kWidth_eq fun k => h _
  simp only [kBin, rBin, hw, hh, kEdge_eq, kBinNo_eq, kPick_eq]
  rw [lastUp, if_neg]
  exact Fin.castSucc_ne_last (n := 8) _

/-- A point's bin has positive width. -/
theorem rBin_ww_pos (x : EReal) {u : Fin 25 → EReal} (h : ∀ k, Finite (u k)) : 0 < (rBin x u).ww :=
  rWidth_pos (fun _ => h _) _

/-! ### Inside the bin -/

/-- A number kept within zero and one. -/
def clamp01 (t : EReal) : EReal := min (lit 0x3F800000#32) (max (lit 0x00000000#32) t)

/-- The denominator, from the bin's slope, the place in the bin and the two end slopes. -/
def denom (s t : EReal) (b : Bin) : EReal :=
  max (s + (b.di + b.di1 - lit 0x40000000#32 * s) * (t * (lit 0x3F800000#32 - t))) (lit 0x358637BD#32)

/-- The numerator of the value. -/
def valNum (s t : EReal) (b : Bin) : EReal := s * (b.di1 * (t * t) + s * (t * (lit 0x3F800000#32 - t)))

/-- The numerator of the derivative. -/
def derNum (s t : EReal) (b : Bin) : EReal :=
  s * s * (b.di1 * (t * t) + lit 0x40000000#32 * s * (t * (lit 0x3F800000#32 - t))
    + b.di * ((lit 0x3F800000#32 - t) * (lit 0x3F800000#32 - t)))

/-- The kernel's slope of the bin: the height times one over the width. -/
def kSlope (b : Bin) : EReal := b.hh * Ideal.div (lit 0x3F800000#32) b.ww

/-- The kernel's place in the bin. -/
def kTheta (x : EReal) (b : Bin) : EReal := clamp01 ((x - b.cw) * Ideal.div (lit 0x3F800000#32) b.ww)

/-- The kernel's one over the denominator. -/
def kInv (x : EReal) (b : Bin) : EReal := Ideal.div (lit 0x3F800000#32) (denom (kSlope b) (kTheta x b) b)

/-- The kernel's value of the spline. -/
def kValue (x : EReal) (b : Bin) : EReal := b.ch + valNum (kSlope b) (kTheta x b) b * kInv x b * b.ww

/-- The kernel's logarithm of the derivative. -/
def kLogDer (x : EReal) (b : Bin) : EReal :=
  Ideal.log (max (derNum (kSlope b) (kTheta x b) b * (kInv x b * kInv x b)) (lit 0x2B8CBCCC#32))

/-- The reference's slope of the bin. -/
def rSlope (b : Bin) : EReal := Ideal.div b.hh b.ww

/-- The reference's place in the bin. -/
def rTheta (x : EReal) (b : Bin) : EReal := clamp01 (Ideal.div (x - b.cw) b.ww)

/-- The reference's denominator. -/
def rDen (x : EReal) (b : Bin) : EReal := denom (rSlope b) (rTheta x b) b

/-- The reference's value of the spline. -/
def rValue (x : EReal) (b : Bin) : EReal :=
  b.ch + Ideal.div (valNum (rSlope b) (rTheta x b) b) (rDen x b) * b.ww

/-- The reference's logarithm of the derivative. -/
def rLogDer (x : EReal) (b : Bin) : EReal :=
  Ideal.log (max (Ideal.div (derNum (rSlope b) (rTheta x b) b) (rDen x b * rDen x b)) (lit 0x2B8CBCCC#32))

/-- Multiplying by one over a positive number is dividing by it. -/
theorem mul_one_over {x y : EReal} (h : 0 < y) : x * Ideal.div (lit 0x3F800000#32) y = Ideal.div x y := by
  rw [lit, Ideal.ofBits_one_f32, Ideal.mul_one_div h.ne']

/-- Multiplying twice by one over a positive number is dividing by its square. -/
theorem mul_one_over_sq {x y : EReal} (h : 0 < y) :
    x * (Ideal.div (lit 0x3F800000#32) y * Ideal.div (lit 0x3F800000#32) y) = Ideal.div x (y * y) := by
  rw [lit, Ideal.ofBits_one_f32, div_of_ne h.ne', div_of_ne (EReal.mul_pos h h).ne', one_mul, EReal.mul_inv]

/-- The denominator is positive. -/
theorem denom_pos (s t : EReal) (b : Bin) : 0 < denom s t b := lt_of_lt_of_le lit_floor_pos (le_max_right _ _)

/-- In a bin of positive width the values agree. -/
theorem kValue_eq (x : EReal) {b : Bin} (h : 0 < b.ww) : kValue x b = rValue x b := by
  rw [kValue, rValue, kInv, kSlope, kTheta, mul_one_over h, mul_one_over h, mul_one_over (denom_pos _ _ _)]
  rfl

/-- In a bin of positive width the logarithms of the derivatives agree. -/
theorem kLogDer_eq (x : EReal) {b : Bin} (h : 0 < b.ww) : kLogDer x b = rLogDer x b := by
  rw [kLogDer, rLogDer, kInv, kSlope, kTheta, mul_one_over h, mul_one_over h, mul_one_over_sq (denom_pos _ _ _)]
  rfl

/-! ### The layer at one element -/

/-- A number taken where the point lies within [-3, 3], another elsewhere. -/
def inside (x a b : EReal) : EReal :=
  Scalar.select (Scalar.andi (Ideal.cmp .oge x (lit 0xC0400000#32)) (Ideal.cmp .ole x (lit 0x40400000#32))) a b

/-- The kernel's output at one element: what the mask keeps, and the spline of the rest. -/
def kOut (xs xd om : EReal) (u : Fin 25 → EReal) : EReal := xs + inside xd (kValue xd (kBin xd u)) xd * om

/-- The kernel's share of the log-determinant at one element. -/
def kLd (xd om : EReal) (u : Fin 25 → EReal) : EReal :=
  inside xd (kLogDer xd (kBin xd u)) (lit 0x00000000#32) * om

/-- The reference's output at one element. -/
def rOut (xs xd om : EReal) (u : Fin 25 → EReal) : EReal := xs + inside xd (rValue xd (rBin xd u)) xd * om

/-- The reference's share of the log-determinant at one element. -/
def rLd (xd om : EReal) (u : Fin 25 → EReal) : EReal :=
  inside xd (rLogDer xd (rBin xd u)) (lit 0x00000000#32) * om

/-- At finite parameters the outputs agree. -/
theorem kOut_eq (xs xd om : EReal) {u : Fin 25 → EReal} (h : ∀ k, Finite (u k)) :
    kOut xs xd om u = rOut xs xd om u := by
  rw [kOut, rOut, kBin_eq xd h, kValue_eq xd (rBin_ww_pos xd h)]

/-- At finite parameters the shares of the log-determinant agree. -/
theorem kLd_eq (xd om : EReal) {u : Fin 25 → EReal} (h : ∀ k, Finite (u k)) : kLd xd om u = rLd xd om u := by
  rw [kLd, rLd, kBin_eq xd h, kLogDer_eq xd (rBin_ww_pos xd h)]

end Cert.Spline

end
-- ==== Proof.Block.lean ====
module

public import proofs.«01_k».proof.Proof.Gen.KernelIdeal.Frame
public import proofs.«01_k».proof.Proof.Spline
public import Idealize.ShloMosaic.Lib.Pointwise

@[expose] public section

set_option maxRecDepth 16384

noncomputable section

/-! What one block of the kernel computes at one element: the twenty-five parameters of the element are
read from twenty-five slices of the parameter block, and the rest is the scalar spline of them. -/

namespace Cert.KernelIdeal.Block

open Idealize.ShloMosaic Cert.KernelIdeal Cert.KernelIdeal.Gen Cert.Spline

/-- A slice of 128 columns fits in the parameter block at each of the twenty-five offsets. -/
theorem slices_at (k : Fin 25) : S256x3200.Slices ![0, 128 * k.val] S256x128 := by
  revert k; decide +kernel

/-- The twenty-five parameters of one element of a block, the `k`-th in slice `k`. -/
def params (p : FVec Ideal S256x3200 .f32) (y : S256x128.Idx) (k : Fin 25) : EReal :=
  extractStridedSlice S256x128 ![0, 128 * k.val] p (slices_at k) y

variable (x0 : Vec Ideal S256x128 .f32) (x1 : Vec Ideal S1x128 .f32) (x2 : Vec Ideal S128x256 .f32)
  (x3 : Vec Ideal S1x256 .f32) (x4 : Vec Ideal S256x3200 .f32) (x5 : Vec Ideal S1x3200 .f32) (y : S256x128.Idx)

/-- The element's parameters, from the blocks. -/
abbrev U : Fin 25 → EReal := params (k0_pay143 x0 x1 x2 x3 x4 x5) y

/-- The block's eight arrays of widths. -/
def widths : Fin 8 → FVec Ideal S256x128 .f32 := ![k0_pay153 x0 x1 x2 x3 x4 x5, k0_pay154 x0 x1 x2 x3 x4 x5, k0_pay155 x0 x1 x2 x3 x4 x5,
  k0_pay156 x0 x1 x2 x3 x4 x5, k0_pay157 x0 x1 x2 x3 x4 x5, k0_pay158 x0 x1 x2 x3 x4 x5,
  k0_pay159 x0 x1 x2 x3 x4 x5, k0_pay160 x0 x1 x2 x3 x4 x5]

/-- The block's eight arrays of heights. -/
def heights : Fin 8 → FVec Ideal S256x128 .f32 := ![k0_pay178 x0 x1 x2 x3 x4 x5, k0_pay179 x0 x1 x2 x3 x4 x5, k0_pay180 x0 x1 x2 x3 x4 x5,
  k0_pay181 x0 x1 x2 x3 x4 x5, k0_pay182 x0 x1 x2 x3 x4 x5, k0_pay183 x0 x1 x2 x3 x4 x5,
  k0_pay184 x0 x1 x2 x3 x4 x5, k0_pay185 x0 x1 x2 x3 x4 x5]

/-- The block's nine arrays of slopes. -/
def slopes : Fin 9 → FVec Ideal S256x128 .f32 :=
  ![k0_pay91 (k0_pay88 (k0_pay143 x0 x1 x2 x3 x4 x5)) (Scalar.ofBits .f32 0x00000000#32) (k0_pay89 (k0_pay143 x0 x1 x2 x3 x4 x5)) (k0_pay90 (k0_pay143 x0 x1 x2 x3 x4 x5)),
  k0_pay186 x0 x1 x2 x3 x4 x5, k0_pay187 x0 x1 x2 x3 x4 x5, k0_pay188 x0 x1 x2 x3 x4 x5,
  k0_pay189 x0 x1 x2 x3 x4 x5, k0_pay190 x0 x1 x2 x3 x4 x5, k0_pay191 x0 x1 x2 x3 x4 x5,
  k0_pay192 x0 x1 x2 x3 x4 x5, k0_pay193 x0 x1 x2 x3 x4 x5]

/-- The block's nine arrays of edges, the last one moved up. -/
def edges : Fin 9 → FVec Ideal S256x128 .f32 := ![k0_pay161 x0 x1 x2 x3 x4 x5, k0_pay162 x0 x1 x2 x3 x4 x5, k0_pay163 x0 x1 x2 x3 x4 x5,
  k0_pay164 x0 x1 x2 x3 x4 x5, k0_pay165 x0 x1 x2 x3 x4 x5, k0_pay166 x0 x1 x2 x3 x4 x5,
  k0_pay167 x0 x1 x2 x3 x4 x5, k0_pay168 x0 x1 x2 x3 x4 x5,
  k0_pay106 (k0_pay47 (widths x0 x1 x2 x3 x4 x5 0) (widths x0 x1 x2 x3 x4 x5 1) (widths x0 x1 x2 x3 x4 x5 2) (widths x0 x1 x2 x3 x4 x5 3)
    (widths x0 x1 x2 x3 x4 x5 4) (widths x0 x1 x2 x3 x4 x5 5) (widths x0 x1 x2 x3 x4 x5 6) (widths x0 x1 x2 x3 x4 x5 7))]

/-- The eight arrays of values at the left edges, from arrays of heights. -/
def lowers (h : Fin 8 → FVec Ideal S256x128 .f32) : Fin 8 → FVec Ideal S256x128 .f32 :=
  ![k0_pay75, k0_pay76 (h 0), k0_pay78 (h 0) (h 1), k0_pay80 (h 0) (h 1) (h 2), k0_pay82 (h 0) (h 1) (h 2) (h 3),
  k0_pay84 (h 0) (h 1) (h 2) (h 3) (h 4), k0_pay86 (h 0) (h 1) (h 2) (h 3) (h 4) (h 5),
  k0_pay87 (h 0) (h 1) (h 2) (h 3) (h 4) (h 5) (h 6)]

/-- The greatest of the width parameters. -/
theorem max_eq : k0_pay150 x0 x1 x2 x3 x4 x5 y = kMax (uW (U x0 x1 x2 x3 x4 x5 y)) := rfl

/-- The first two exponentials of the widths. -/
theorem exp_eq : k0_pay151 x0 x1 x2 x3 x4 x5 y = kExp (uW (U x0 x1 x2 x3 x4 x5 y)) 0
    ∧ k0_pay152 x0 x1 x2 x3 x4 x5 y = kExp (uW (U x0 x1 x2 x3 x4 x5 y)) 1 := ⟨rfl, rfl⟩

/-- The widths are the kernel's widths of the first eight parameters. -/
theorem widths_eq (k : Fin 8) : widths x0 x1 x2 x3 x4 x5 k y = kWidth (uW (U x0 x1 x2 x3 x4 x5 y)) k := by
  fin_cases k <;> rfl

/-- The heights are the kernel's widths of the next eight. -/
theorem heights_eq (k : Fin 8) : heights x0 x1 x2 x3 x4 x5 k y = kWidth (uH (U x0 x1 x2 x3 x4 x5 y)) k := by
  fin_cases k <;> rfl

/-- The slopes are the slopes of the last nine. -/
theorem slopes_eq (k : Fin 9) : slopes x0 x1 x2 x3 x4 x5 k y = slope (uD (U x0 x1 x2 x3 x4 x5 y) k) := by
  rw [← kSlopeOf_eq]
  fin_cases k <;> rfl

/-- The edges are the kernel's edges of the widths, the last one moved up. -/
theorem edges_eq (k : Fin 9) : edges x0 x1 x2 x3 x4 x5 k y = lastUp (kEdge (kWidth (uW (U x0 x1 x2 x3 x4 x5 y)))) k := by
  rw [show kWidth (uW (U x0 x1 x2 x3 x4 x5 y)) = fun k => widths x0 x1 x2 x3 x4 x5 k y from
    funext fun k => (widths_eq x0 x1 x2 x3 x4 x5 y k).symm]
  fin_cases k <;> rfl

/-- The values at the left edges are the kernel's edges of the heights. -/
theorem lowers_eq (h : Fin 8 → FVec Ideal S256x128 .f32) (k : Fin 8) :
    lowers h k y = kEdge (fun k => h k y) k.castSucc := by
  fin_cases k <;> rfl

end Cert.KernelIdeal.Block

end
-- ==== Proof.Payload.lean ====
module

public import proofs.«01_k».proof.Proof.Block

@[expose] public section

set_option maxRecDepth 16384

noncomputable section

/-! The kernel's choice of a bin and the spline in it, over any arrays of widths, heights, edges and
slopes: each printed function read at one element. -/

namespace Cert.KernelIdeal.Block

open Idealize.ShloMosaic Cert.KernelIdeal Cert.KernelIdeal.Gen Cert.Spline

variable (w h g : Fin 8 → FVec Ideal S256x128 .f32) (e s : Fin 9 → FVec Ideal S256x128 .f32)
  (x c o z : FVec Ideal S256x128 .f32) (d : IVec S256x128 1) (y : S256x128.Idx)

/-- The bin number's array. -/
abbrev pI := k0_pay113 c d o z
/-- Whether the bin number is at least six. -/
abbrev p6 := k0_pay124 c d o z
/-- The width chosen among the first six bins. -/
abbrev pW := k0_pay119 (w 0) (w 1) (w 2) (w 3) (w 4) (w 5) c d o z
/-- The height chosen among the first six bins. -/
abbrev pH := k0_pay121 (h 0) (h 1) (h 2) (h 3) (h 4) (h 5) c d o z
/-- The value at the left edge chosen among the first six bins. -/
abbrev pG := k0_pay120 (g 0) (g 1) (g 2) (g 3) (g 4) (g 5) c d o z
/-- The left slope chosen among the first six bins. -/
abbrev pS := k0_pay122 (s 0) (s 1) (s 2) (s 3) (s 4) (s 5) c d o z
/-- The right slope chosen among the first six bins. -/
abbrev pT := k0_pay123 (s 1) (s 2) (s 3) (s 4) (s 5) (s 6) c d o z
/-- The left edge chosen among the first seven bins. -/
abbrev pE := k0_pay125 (e 0) (e 1) (e 2) (e 3) (e 4) (e 5) (e 6) c d o z

/-- The chosen bin. -/
def binOf : Bin :=
  let i := pI c o z d y
  { cw := kPick i fun k => e k.castSucc y
    ww := kPick i fun k => w k y
    ch := kPick i fun k => g k y
    hh := kPick i fun k => h k y
    di := clampSlope (kPick i fun k => s k.castSucc y)
    di1 := clampSlope (kPick i fun k => s k.succ y) }

/-- The chosen width. -/
theorem ww_eq : k0_pay127 (w 6) (w 7) (pI c o z d) (pW w c o z d) (p6 c o z d) y = (binOf w h g e s c o z d y).ww := rfl

/-- The chosen value at the left edge. -/
theorem ch_eq : k0_pay128 (g 6) (g 7) (pI c o z d) (pG g c o z d) (p6 c o z d) y = (binOf w h g e s c o z d y).ch := rfl

/-- The chosen left slope. -/
theorem di_eq : k0_pay129 (s 6) (s 7) (pI c o z d) (pS s c o z d) (p6 c o z d) y = (binOf w h g e s c o z d y).di := rfl

/-- The chosen right slope. -/
theorem di1_eq : k0_pay130 (s 7) (s 8) (pI c o z d) (pT s c o z d) (p6 c o z d) y = (binOf w h g e s c o z d y).di1 := rfl

/-- The slope of the chosen bin. -/
theorem slope_eq : k0_pay132 (w 6) (w 7) (h 6) (h 7) (pI c o z d) (pW w c o z d) (pH h c o z d) (p6 c o z d) y
    = kSlope (binOf w h g e s c o z d y) := rfl

/-- The place in the chosen bin. -/
theorem theta_eq : k0_pay133 x (w 6) (w 7) (e 7) (pI c o z d) (pW w c o z d) (p6 c o z d) (pE e c o z d) y
    = kTheta (x y) (binOf w h g e s c o z d y) := rfl

/-- One over the denominator. -/
theorem inv_eq : k0_pay136 x (w 6) (w 7) (e 7) (h 6) (h 7) (s 6) (s 7) (s 8) (pI c o z d) (pW w c o z d)
      (pH h c o z d) (pS s c o z d) (pT s c o z d) (p6 c o z d) (pE e c o z d) y
    = kInv (x y) (binOf w h g e s c o z d y) := by
  rw [kInv, denom, ← slope_eq, ← theta_eq, ← di_eq, ← di1_eq]
  rfl

/-- The numerator of the value. -/
theorem num_eq : k0_pay137 x (w 6) (w 7) (e 7) (h 6) (h 7) (s 7) (s 8) (pI c o z d) (pW w c o z d)
      (pH h c o z d) (pT s c o z d) (p6 c o z d) (pE e c o z d) y
    = valNum (kSlope (binOf w h g e s c o z d y)) (kTheta (x y) (binOf w h g e s c o z d y))
        (binOf w h g e s c o z d y) := by
  rw [valNum, ← slope_eq, ← theta_eq, ← di1_eq]
  rfl

/-- The bin number, counted from nine edges. -/
theorem binNo_eq : k0_pay113 (k0_pay109 x (e 1) (e 2) (e 3) (e 4) (e 5) (e 6) (e 7) k0_pay107 (k0_pay108 x (e 0)))
      (k0_pay110 x (e 8)) k0_pay111 k0_pay112 y = kBinNo (x y) (fun k => e k y) := rfl

variable (om : FVec Ideal S1x128 .f32) (xs : FVec Ideal S256x128 .f32)

/-- A row repeated down a block, read at one element. -/
theorem row_at : broadcastTo S256x128 om broadcasts_S1x128_S256x128 y = om (ix2 0 (y 1)) := by
  idx_vars y
  pointwise

/-- The sum along each row, read at one row. -/
theorem rowSum (v : FVec Ideal S256x128 .f32) (r : S256x1.Idx) :
    shapeCast S256x1 (multiReduction .add [1] S256 v 0x00000000#32 reduces_S256x128_S256 (.inl rfl) rfl)
      shapeCasts_S256_S256x1 r = ∑ l : Fin 128, v (ix2 (r 0) l) := by
  idx_vars r
  pointwise

/-- The first result at one element. -/
theorem out_pay : k0_pay139 om xs x (k0_pay127 (w 6) (w 7) (pI c o z d) (pW w c o z d) (p6 c o z d))
      (k0_pay128 (g 6) (g 7) (pI c o z d) (pG g c o z d) (p6 c o z d))
      (k0_pay136 x (w 6) (w 7) (e 7) (h 6) (h 7) (s 6) (s 7) (s 8) (pI c o z d) (pW w c o z d)
        (pH h c o z d) (pS s c o z d) (pT s c o z d) (p6 c o z d) (pE e c o z d))
      (k0_pay137 x (w 6) (w 7) (e 7) (h 6) (h 7) (s 7) (s 8) (pI c o z d) (pW w c o z d)
        (pH h c o z d) (pT s c o z d) (p6 c o z d) (pE e c o z d)) y
    = xs y + inside (x y) (kValue (x y) (binOf w h g e s c o z d y)) (x y) * om (ix2 0 (y 1)) := by
  rw [kValue, ← num_eq, ← inv_eq, ← ww_eq, ← ch_eq, ← row_at y om]
  rfl

/-- The second result at one row: the sum over the row's elements. -/
theorem ld_pay (r : S256x1.Idx) : k0_pay140 om x (k0_pay129 (s 6) (s 7) (pI c o z d) (pS s c o z d) (p6 c o z d))
      (k0_pay130 (s 7) (s 8) (pI c o z d) (pT s c o z d) (p6 c o z d))
      (k0_pay132 (w 6) (w 7) (h 6) (h 7) (pI c o z d) (pW w c o z d) (pH h c o z d) (p6 c o z d))
      (k0_pay133 x (w 6) (w 7) (e 7) (pI c o z d) (pW w c o z d) (p6 c o z d) (pE e c o z d))
      (k0_pay134 x (w 6) (w 7) (e 7) (pI c o z d) (pW w c o z d) (p6 c o z d) (pE e c o z d))
      (k0_pay135 x (w 6) (w 7) (e 7) (pI c o z d) (pW w c o z d) (p6 c o z d) (pE e c o z d))
      (k0_pay136 x (w 6) (w 7) (e 7) (h 6) (h 7) (s 6) (s 7) (s 8) (pI c o z d) (pW w c o z d)
        (pH h c o z d) (pS s c o z d) (pT s c o z d) (p6 c o z d) (pE e c o z d)) r
    = ∑ l : Fin 128, inside (x (ix2 (r 0) l)) (kLogDer (x (ix2 (r 0) l)) (binOf w h g e s c o z d (ix2 (r 0) l)))
        (lit 0x00000000#32) * om (ix2 0 l) := by
  refine (rowSum _ r).trans (Finset.sum_congr rfl fun l _ => ?_)
  generalize hy : (ix2 (r 0) l : S256x128.Idx) = y
  have hl : om (ix2 0 l) = om (ix2 0 (y 1)) := by rw [← hy]; rfl
  rw [hl, ← row_at y om, kLogDer, derNum, ← slope_eq, ← theta_eq, ← inv_eq, ← di_eq, ← di1_eq]
  rfl

end Cert.KernelIdeal.Block

end
-- ==== Proof.BlockOut.lean ====
module

public import proofs.«01_k».proof.Proof.Payload

@[expose] public section

set_option maxRecDepth 16384

noncomputable section

/-! The two results of one block of the kernel, at one element and at one row. -/

namespace Cert.KernelIdeal.Block

open Idealize.ShloMosaic Cert.KernelIdeal Cert.KernelIdeal.Gen Cert.Spline

variable (x0 : Vec Ideal S256x128 .f32) (x1 : Vec Ideal S1x128 .f32) (x2 : Vec Ideal S128x256 .f32)
  (x3 : Vec Ideal S1x256 .f32) (x4 : Vec Ideal S256x3200 .f32) (x5 : Vec Ideal S1x3200 .f32) (y : S256x128.Idx)

/-- The offsets of a whole block are zero. -/
theorem off_zero : (![0, 0] : Fin 2 → ℕ) = fun _ => 0 := funext fun a => by fin_cases a <;> rfl

/-- The chosen bin is the bin of the element's parameters. -/
theorem binOf_eq : binOf (widths x0 x1 x2 x3 x4 x5) (heights x0 x1 x2 x3 x4 x5) (lowers (heights x0 x1 x2 x3 x4 x5))
      (edges x0 x1 x2 x3 x4 x5) (slopes x0 x1 x2 x3 x4 x5) (k0_pay194 x0 x1 x2 x3 x4 x5) (k0_pay196 x0 x1 x2 x3 x4 x5)
      (k0_pay197 x0 x1 x2 x3 x4 x5) (k0_pay195 x0 x1 x2 x3 x4 x5) y
    = kBin (k0_pay142 x0 x1 x2 x3 x4 x5 y) (U x0 x1 x2 x3 x4 x5 y) := by
  have hi : pI (k0_pay194 x0 x1 x2 x3 x4 x5) (k0_pay196 x0 x1 x2 x3 x4 x5) (k0_pay197 x0 x1 x2 x3 x4 x5)
      (k0_pay195 x0 x1 x2 x3 x4 x5) y = _ :=
    binNo_eq (edges x0 x1 x2 x3 x4 x5) (k0_pay142 x0 x1 x2 x3 x4 x5) y
  have he (k : Fin 8) : edges x0 x1 x2 x3 x4 x5 k.castSucc y
      = kEdge (kWidth (uW (U x0 x1 x2 x3 x4 x5 y))) k.castSucc := by
    rw [edges_eq, lastUp, if_neg]
    exact Fin.castSucc_ne_last (n := 8) _
  simp only [binOf, kBin, hi, he, edges_eq, lowers_eq, widths_eq, heights_eq, slopes_eq]

/-- The parameters of a block do not depend on how its operands are loaded. -/
theorem loads : k0_pay141 x0 x1 x2 x3 x4 x5 = k0_pay2 x1 ∧ k0_pay142 x0 x1 x2 x3 x4 x5 = k0_pay4 x0 x1
    ∧ k0_pay143 x0 x1 x2 x3 x4 x5 = k0_pay5 x0 x1 x2 x3 x4 x5 := by
  refine ⟨?_, ?_, ?_⟩
  · unfold k0_pay141
    rw [View.ld_unit_zero off_zero]
  · unfold k0_pay142
    rw [View.ld_unit_zero off_zero, View.ld_unit_zero off_zero]
  · unfold k0_pay143
    rw [View.ld_unit_zero off_zero, View.ld_unit_zero off_zero, View.ld_unit_zero off_zero, View.ld_unit_zero off_zero,
      View.ld_unit_zero off_zero, View.ld_unit_zero off_zero]

/-- The first result at one element of the block. -/
theorem out_eq : out0_6 x0 x1 x2 x3 x4 x5 y
    = kOut (k0_pay3 x0 x1 y) (k0_pay4 x0 x1 y) (k0_pay2 x1 (ix2 0 (y 1))) (params (k0_pay5 x0 x1 x2 x3 x4 x5) y) := by
  have h := out_pay (widths x0 x1 x2 x3 x4 x5) (heights x0 x1 x2 x3 x4 x5) (lowers (heights x0 x1 x2 x3 x4 x5))
    (edges x0 x1 x2 x3 x4 x5) (slopes x0 x1 x2 x3 x4 x5) (k0_pay142 x0 x1 x2 x3 x4 x5)
    (k0_pay194 x0 x1 x2 x3 x4 x5) (k0_pay196 x0 x1 x2 x3 x4 x5)
    (k0_pay197 x0 x1 x2 x3 x4 x5) (k0_pay195 x0 x1 x2 x3 x4 x5) y (k0_pay141 x0 x1 x2 x3 x4 x5) (k0_pay3 x0 x1)
  rw [binOf_eq] at h
  unfold out0_6
  rw [View.canon_unit_zero off_zero, View.ld_unit_zero off_zero, View.ld_unit_zero off_zero]
  refine Eq.trans h ?_
  rw [U, (loads x0 x1 x2 x3 x4 x5).1, (loads x0 x1 x2 x3 x4 x5).2.1, (loads x0 x1 x2 x3 x4 x5).2.2]
  rfl

/-- The second result at one row of the block. -/
theorem ld_eq (r : S256x1.Idx) : out0_7 x0 x1 x2 x3 x4 x5 r
    = ∑ l : Fin 128, kLd (k0_pay4 x0 x1 (ix2 (r 0) l)) (k0_pay2 x1 (ix2 0 l))
        (params (k0_pay5 x0 x1 x2 x3 x4 x5) (ix2 (r 0) l)) := by
  have h := ld_pay (widths x0 x1 x2 x3 x4 x5) (heights x0 x1 x2 x3 x4 x5) (lowers (heights x0 x1 x2 x3 x4 x5))
    (edges x0 x1 x2 x3 x4 x5) (slopes x0 x1 x2 x3 x4 x5) (k0_pay142 x0 x1 x2 x3 x4 x5)
    (k0_pay194 x0 x1 x2 x3 x4 x5) (k0_pay196 x0 x1 x2 x3 x4 x5)
    (k0_pay197 x0 x1 x2 x3 x4 x5) (k0_pay195 x0 x1 x2 x3 x4 x5) (k0_pay141 x0 x1 x2 x3 x4 x5) r
  simp only [binOf_eq] at h
  unfold out0_7
  rw [View.canon_unit_zero off_zero]
  refine Eq.trans h ?_
  simp only [U, (loads x0 x1 x2 x3 x4 x5).1, (loads x0 x1 x2 x3 x4 x5).2.1, (loads x0 x1 x2 x3 x4 x5).2.2]
  rfl

end Cert.KernelIdeal.Block

end
-- ==== Proof.Net.lean ====
module

public import proofs.«01_k».proof.Proof.Spline

@[expose] public section

noncomputable section

/-! The network that makes one parameter of one element, and that finite inputs make it finite. -/

namespace Cert.Spline

open Idealize.ShloMosaic

/-- One parameter: two layers with a rectifier between, from the kept part of a row. -/
def param (xs : Fin 128 → EReal) (W1 : Fin 128 → Fin 256 → EReal) (b1 : Fin 256 → EReal) (W2 : Fin 256 → EReal)
    (b2 : EReal) : EReal := (∑ j, max ((∑ i, xs i * W1 i j) + b1 j) 0 * W2 j) + b2

/-- A number is finite when it is a real number. -/
theorem finite_iff (x : EReal) : Finite x ↔ ∃ r : ℝ, x = r := by
  constructor
  · rintro ⟨h, h'⟩
    exact ⟨x.toReal, (EReal.coe_toReal h' h).symm⟩
  · rintro ⟨r, rfl⟩
    exact ⟨EReal.coe_ne_bot r, EReal.coe_ne_top r⟩

/-- A product of finite numbers is finite. -/
theorem Finite.mul {x y : EReal} (hx : Finite x) (hy : Finite y) : Finite (x * y) := by
  obtain ⟨a, rfl⟩ := (finite_iff x).1 hx
  obtain ⟨b, rfl⟩ := (finite_iff y).1 hy
  exact (finite_iff _).2 ⟨a * b, (EReal.coe_mul a b).symm⟩

/-- A sum of two finite numbers is finite. -/
theorem Finite.add {x y : EReal} (hx : Finite x) (hy : Finite y) : Finite (x + y) := by
  obtain ⟨a, rfl⟩ := (finite_iff x).1 hx
  obtain ⟨b, rfl⟩ := (finite_iff y).1 hy
  exact (finite_iff _).2 ⟨a + b, (EReal.coe_add a b).symm⟩

/-- Zero is finite. -/
theorem finite_zero : Finite 0 := ⟨EReal.zero_ne_bot, EReal.zero_ne_top⟩

/-- The greater of a finite number and zero is finite. -/
theorem Finite.relu {x : EReal} (hx : Finite x) : Finite (max x 0) := by
  rcases max_choice x 0 with h | h <;> rw [h]
  · exact hx
  · exact finite_zero

/-- A finite sum of finite numbers is finite. -/
theorem Finite.sum {n : ℕ} {f : Fin n → EReal} (h : ∀ i, Finite (f i)) : Finite (∑ i, f i) := by
  induction n with
  | zero => simpa using finite_zero
  | succ n ih =>
    rw [Fin.sum_univ_succ]
    exact (h 0).add (ih fun i => h i.succ)

/-- A parameter of finite inputs is finite. -/
theorem param_finite {xs : Fin 128 → EReal} {W1 : Fin 128 → Fin 256 → EReal} {b1 : Fin 256 → EReal}
    {W2 : Fin 256 → EReal} {b2 : EReal} (hx : ∀ i, Finite (xs i)) (hW1 : ∀ i j, Finite (W1 i j))
    (hb1 : ∀ j, Finite (b1 j)) (hW2 : ∀ j, Finite (W2 j)) (hb2 : Finite b2) : Finite (param xs W1 b1 W2 b2) :=
  (Finite.sum fun j => (((Finite.sum fun i => (hx i).mul (hW1 i j)).add (hb1 j)).relu).mul (hW2 j)).add hb2

end Cert.Spline

end
-- ==== Proof.BlockNet.lean ====
module

public import proofs.«01_k».proof.Proof.BlockOut
public import proofs.«01_k».proof.Proof.Net

@[expose] public section

set_option maxRecDepth 16384

noncomputable section

/-! The parameters of one element of a block are the network's, and the mask's two parts of an element. -/

namespace Cert.KernelIdeal.Block

open Idealize.ShloMosaic Cert.KernelIdeal Cert.KernelIdeal.Gen Cert.Spline

variable (x0 : Vec Ideal S256x128 .f32) (x1 : Vec Ideal S1x128 .f32) (x2 : Vec Ideal S128x256 .f32)
  (x3 : Vec Ideal S1x256 .f32) (x4 : Vec Ideal S256x3200 .f32) (x5 : Vec Ideal S1x3200 .f32)

/-- The column of the `k`-th parameter of element `l`: the parameters of one kind lie side by side. -/
def colOf (k : Fin 25) (l : Fin 128) : Fin 3200 := ⟨128 * k.val + l.val, by omega⟩

/-- A slice of the parameter block, read at one element. -/
theorem params_apply (p : FVec Ideal S256x3200 .f32) (b : Fin 256) (l : Fin 128) (k : Fin 25) :
    params p (ix2 b l) k = p (ix2 b (colOf k l)) := by
  unfold params colOf
  pointwise

/-- The parameter block, read at one element. -/
theorem net_apply (b : Fin 256) (l : Fin 128) (k : Fin 25) : params (k0_pay5 x0 x1 x2 x3 x4 x5) (ix2 b l) k
    = param (fun i => x0 (ix2 b i) * x1 (ix2 0 i)) (fun i j => x2 (ix2 i j)) (fun j => x3 (ix2 0 j))
        (fun j => x4 (ix2 j (colOf k l))) (x5 (ix2 0 (colOf k l))) := by
  rw [params_apply]
  unfold param
  pointwise [k0_pay5, k0_pay3, k0_pay1]

/-- What the mask keeps of an element. -/
theorem kept_apply (b : Fin 256) (l : Fin 128) : k0_pay3 x0 x1 (ix2 b l) = x0 (ix2 b l) * x1 (ix2 0 l) := by
  pointwise [k0_pay3, k0_pay1]

/-- What the mask leaves. -/
theorem left_apply (l : Fin 128) : k0_pay2 x1 (ix2 0 l) = 1 - x1 (ix2 0 l) := by
  pointwise [k0_pay2, k0_pay1]

/-- The rest of an element. -/
theorem rest_apply (b : Fin 256) (l : Fin 128) :
    k0_pay4 x0 x1 (ix2 b l) = x0 (ix2 b l) * (1 - x1 (ix2 0 l)) := by
  pointwise [k0_pay4, k0_pay2, k0_pay1]

end Cert.KernelIdeal.Block

end
-- ==== Proof.Result.lean ====
module

public import proofs.«01_k».proof.Proof.Net

@[expose] public section

noncomputable section

/-! The two results as functions of the six arguments, as the kernel and as the reference compute them
at one element and one row, and their equation at finite arguments. -/

namespace Cert.Spline

open Idealize.ShloMosaic

/-- The six arguments, each by its coordinates. -/
structure Args where
  /-- the points -/
  x : Fin 32768 → Fin 128 → EReal
  /-- the mask -/
  mask : Fin 128 → EReal
  /-- the first layer's weights -/
  W1 : Fin 128 → Fin 256 → EReal
  /-- the first layer's bias -/
  b1 : Fin 256 → EReal
  /-- the second layer's weights -/
  W2 : Fin 256 → Fin 3200 → EReal
  /-- the second layer's bias -/
  b2 : Fin 3200 → EReal

/-- Arguments equal at every coordinate are equal. -/
theorem args_ext {a b : Args} (hx : ∀ r l, a.x r l = b.x r l) (hm : ∀ l, a.mask l = b.mask l)
    (hW1 : ∀ i j, a.W1 i j = b.W1 i j) (hb1 : ∀ j, a.b1 j = b.b1 j) (hW2 : ∀ j n, a.W2 j n = b.W2 j n)
    (hb2 : ∀ n, a.b2 n = b.b2 n) : a = b := by
  cases a
  cases b
  rw [Args.mk.injEq]
  exact ⟨funext fun r => funext (hx r), funext hm, funext fun i => funext (hW1 i), funext hb1,
    funext fun j => funext (hW2 j), funext hb2⟩

/-- The second layer's column of the `k`-th parameter of element `l`. -/
def ownCol (l : Fin 128) (k : Fin 25) : Fin 3200 := ⟨25 * l.val + k.val, by omega⟩

/-- The part of a point that the mask keeps. -/
def Args.kept (a : Args) (r : Fin 32768) (l : Fin 128) : EReal := a.x r l * a.mask l

/-- The part that the mask leaves. -/
def Args.rest (a : Args) (r : Fin 32768) (l : Fin 128) : EReal := a.x r l * (1 - a.mask l)

/-- The twenty-five parameters of an element. -/
def Args.u (a : Args) (r : Fin 32768) (l : Fin 128) (k : Fin 25) : EReal :=
  param (a.kept r) a.W1 a.b1 (fun j => a.W2 j (ownCol l k)) (a.b2 (ownCol l k))

/-- Every argument is finite everywhere. -/
structure Args.AllFinite (a : Args) : Prop where
  x : ∀ r l, Finite (a.x r l)
  mask : ∀ l, Finite (a.mask l)
  W1 : ∀ i j, Finite (a.W1 i j)
  b1 : ∀ j, Finite (a.b1 j)
  W2 : ∀ j n, Finite (a.W2 j n)
  b2 : ∀ n, Finite (a.b2 n)

/-- The parameters of finite arguments are finite. -/
theorem Args.AllFinite.u {a : Args} (h : a.AllFinite) (r : Fin 32768) (l : Fin 128) (k : Fin 25) : Finite (a.u r l k) :=
  param_finite (fun i => (h.x r i).mul (h.mask i)) h.W1 h.b1 (fun j => h.W2 j _) (h.b2 _)

/-- The kernel's first result at an element. -/
def Args.kOut (a : Args) (r : Fin 32768) (l : Fin 128) : EReal :=
  Spline.kOut (a.kept r l) (a.rest r l) (1 - a.mask l) (a.u r l)

/-- The reference's first result at an element. -/
def Args.rOut (a : Args) (r : Fin 32768) (l : Fin 128) : EReal :=
  Spline.rOut (a.kept r l) (a.rest r l) (1 - a.mask l) (a.u r l)

/-- The kernel's second result at a row. -/
def Args.kLd (a : Args) (r : Fin 32768) : EReal := ∑ l, Spline.kLd (a.rest r l) (1 - a.mask l) (a.u r l)

/-- The reference's second result at a row. -/
def Args.rLd (a : Args) (r : Fin 32768) : EReal := ∑ l, Spline.rLd (a.rest r l) (1 - a.mask l) (a.u r l)

/-- At finite arguments the first results agree. -/
theorem Args.AllFinite.out_eq {a : Args} (h : a.AllFinite) (r : Fin 32768) (l : Fin 128) : a.kOut r l = a.rOut r l :=
  kOut_eq _ _ _ (h.u r l)

/-- At finite arguments the second results agree. -/
theorem Args.AllFinite.ld_eq {a : Args} (h : a.AllFinite) (r : Fin 32768) : a.kLd r = a.rLd r :=
  Finset.sum_congr rfl fun l _ => kLd_eq _ _ (h.u r l)

end Cert.Spline

end
-- ==== Proof.Arrays.lean ====
module

public import proofs.«01_k».proof.Proof.BlockNet
public import proofs.«01_k».proof.Proof.Result
public import proofs.«01_k».proof.Proof.Gen.KernelIdeal.Value
public import Idealize.ShloMosaic.Lib.Pipeline.ValueKit

@[expose] public section

set_option maxRecDepth 16384

noncomputable section

/-! The kernel's two result arrays after the run: each block is its grid point's, and the blocks cover
the arrays. -/

namespace Cert.KernelIdeal.Arrays

open Idealize.ShloMosaic Idealize.ShloMosaic.TcCoe
open Cert.KernelIdeal Cert.KernelIdeal.Gen Cert.KernelIdeal.Block Cert.Spline

variable (m : (ℓ : Loc nD τ sig) → Buf (Elt Ideal) ℓ) (c : Dev nD)

/-- The arguments of one device, by their coordinates. -/
def args : Args where
  x r l := m ((c : Thread nD τ).loc main_arg0) (ix2 r l)
  mask l := m ((c : Thread nD τ).loc main_arg1) (ix1 l)
  W1 i j := m ((c : Thread nD τ).loc main_arg2) (ix2 i j)
  b1 j := m ((c : Thread nD τ).loc main_arg3) (ix1 j)
  W2 j n := m ((c : Thread nD τ).loc main_arg4) (ix2 j n)
  b2 n := m ((c : Thread nD τ).loc main_arg5) (ix1 n)

/-- The index maps: the points' blocks and the results' move with the grid point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0])

/-- Row `b` of grid point `t`'s block, in the array. -/
def rowOf (t : Fin cfg0.N) (b : Fin 256) : Fin 32768 :=
  ⟨256 * t.val + b.val, by have := t.isLt; have : cfg0.N = 128 := N_0; omega⟩

/-- A block of the points. -/
theorem read_x (t : Fin cfg0.N) (b : Fin 256) (l : Fin 128) :
    iblk m c 0 t (ix2 b l) = (args m c).x (rowOf t b) l := by
  unfold args rowOf
  blk_ext [iblk, V, idx t]

/-- The mask's block. -/
theorem read_mask (t : Fin cfg0.N) (l : Fin 128) : iblk m c 1 t (ix2 0 l) = (args m c).mask l := by
  unfold args
  blk_ext! [iblk, V, idx t]

/-- The first layer's block of weights. -/
theorem read_W1 (t : Fin cfg0.N) (i : Fin 128) (j : Fin 256) : iblk m c 2 t (ix2 i j) = (args m c).W1 i j := by
  unfold args
  blk_ext [iblk, V, idx t]

/-- The first layer's block of bias. -/
theorem read_b1 (t : Fin cfg0.N) (j : Fin 256) : iblk m c 3 t (ix2 0 j) = (args m c).b1 j := by
  unfold args
  blk_ext! [iblk, V, idx t]

/-- The second layer's block of weights: its columns are the argument's, one kind of parameter after another. -/
theorem read_W2 (t : Fin cfg0.N) (j : Fin 256) (k : Fin 25) (l : Fin 128) :
    iblk m c 4 t (ix2 j (colOf k l)) = (args m c).W2 j (ownCol l k) := by
  unfold args colOf ownCol
  blk_ext! [iblk, V, idx t]

/-- The second layer's block of bias. -/
theorem read_b2 (t : Fin cfg0.N) (k : Fin 25) (l : Fin 128) :
    iblk m c 5 t (ix2 0 (colOf k l)) = (args m c).b2 (ownCol l k) := by
  unfold args colOf ownCol
  blk_ext! [iblk, V, idx t]

/-- A block's parameters are the arguments' parameters. -/
theorem params_eq (t : Fin cfg0.N) (b : Fin 256) (l : Fin 128) :
    params (k0_pay5 (iblk m c 0 t) (iblk m c 1 t) (iblk m c 2 t) (iblk m c 3 t) (iblk m c 4 t) (iblk m c 5 t)) (ix2 b l)
      = (args m c).u (rowOf t b) l := by
  funext k
  rw [net_apply]
  simp only [read_x, read_mask, read_W1, read_b1, read_W2, read_b2]
  rfl

/-- The first result's array after the run. -/
theorem out_final : (dats m 0 c).arrAt 6 cfg0.N = fun i => (args m c).kOut (i 0) (i 1) := by
  refine (dats m 0 c).arrAt_eq_of_covers 6 _ (by decide +kernel) fun t hf y => ?_
  blk_simp
  rw [after0_6, out_eq]
  idx_vars y
  rw [params_eq, kept_apply, rest_apply, left_apply, read_x, read_mask]
  have e : ((View.whole main_v8_0).slice (win0_6.rect t)).emb (ix2 y0 y1) = ix2 (rowOf t y0) y1 := by
    unfold rowOf
    blk_ext [idx t]
  rw [e]
  rfl

/-- The second result's array after the run. -/
theorem ld_final : (dats m 0 c).arrAt 7 cfg0.N = fun i => (args m c).kLd (i 0) := by
  refine (dats m 0 c).arrAt_eq_of_covers 7 _ (by decide +kernel) fun t hf y => ?_
  blk_simp
  rw [after0_7, ld_eq]
  idx_vars y
  simp only [params_eq, rest_apply, left_apply, read_x, read_mask]
  have e : ((View.whole main_v8_1).slice (win0_7.rect t)).emb (ix2 y0 y1) = ix2 (rowOf t y0) y1 := by
    unfold rowOf
    blk_ext [idx t]
  rw [e]
  rfl

end Cert.KernelIdeal.Arrays

end
-- ==== Proof.Finite.lean ====
module

public import proofs.«01_k».proof.Defs
public import proofs.«01_k».proof.Proof.Arrays

@[expose] public section

set_option maxRecDepth 16384

noncomputable section

/-! The precondition says that every argument is finite. -/

namespace Cert.Pre_finite

open Idealize.ShloMosaic Cert.Spline

/-- The shape relations the precondition states. -/
theorem facts : Facts where
  bcast_S_S32768x128 := by decide
  reducesTo_S32768x128_S_d0_1 := by decide
  h_S_ := by decide
  bcast_S_S128 := by decide
  reducesTo_S128_S_d0 := by decide
  bcast_S_S128x256 := by decide
  reducesTo_S128x256_S_d0_1 := by decide
  bcast_S_S256 := by decide
  reducesTo_S256_S_d0 := by decide
  bcast_S_S256x3200 := by decide
  reducesTo_S256x3200_S_d0_1 := by decide
  bcast_S_S3200 := by decide
  reducesTo_S3200_S_d0 := by decide

/-- A conjunction of two truth values holds where both do. -/
theorem andi_one {p q : BitVec 1} (h : IntOp.andi p q = 1#1) : p = 1#1 ∧ q = 1#1 := by
  revert p q
  decide

/-- A conjunction over a set holds where every member does. -/
theorem fold_andi {ι : Type} (s : Finset ι) (f : ι → BitVec 1) (h : s.fold IntOp.andi 1#1 f = 1#1) :
    ∀ i ∈ s, f i = 1#1 := by
  classical
  induction s using Finset.induction_on with
  | empty => intro i hi; exact absurd hi (Finset.notMem_empty i)
  | insert a s ha ih =>
    rw [Finset.fold_insert ha] at h
    obtain ⟨h1, h2⟩ := andi_one h
    intro i hi
    rcases Finset.mem_insert.1 hi with rfl | hi
    · exact h1
    · exact ih h2 i hi

/-- A number whose magnitude is below infinity is finite. -/
theorem finite_of_lt (x : EReal) (h : Ideal.cmp .olt (max x (-x)) (lit 0x7F800000#32) = 1#1) : Finite x := by
  rw [lit_inf] at h
  have h' : max x (-x) < (⊤ : EReal) := by
    by_contra hn
    have e : Ideal.cmp .olt (max x (-x)) (⊤ : EReal) = BitVec.ofBool (decide (max x (-x) < (⊤ : EReal))) := rfl
    rw [e, decide_eq_false hn] at h
    exact absurd h (by decide)
  refine ⟨?_, ?_⟩
  · rintro rfl
    exact absurd h' (by simp)
  · rintro rfl
    exact absurd h' (by simp)

/-- The precondition's question of one array: is every magnitude below infinity? -/
def ask {s : Shape} (hb : S_.BroadcastsInDim s (![] : Fin 0 → Fin s.rank)) {ds : List (Fin s.rank)}
    (hr : s.ReducesTo ds S_) (hu : 0 < S_.numel) (x : FVec Ideal s .f32) : IVec S_ 1 :=
  Host.reduce IntOp.andi (cmpf .olt (Host.absf x) (broadcastInDim s ![] hb (constant S_ .f32 0x7F800000#32)))
    (constantI S_ 1 1#1) hr hu

/-- An array of which it holds is finite at every index. -/
theorem ask_finite {s : Shape} (hb : S_.BroadcastsInDim s (![] : Fin 0 → Fin s.rank)) {ds : List (Fin s.rank)}
    (hr : s.ReducesTo ds S_) (hu : 0 < S_.numel) (x : FVec Ideal s .f32) (j : S_.Idx)
    (h : ask hb hr hu x j = 1#1) (i : s.Idx) : Finite (x i) := by
  unfold ask at h
  rw [Host.reduce_eq_fold] at h
  exact finite_of_lt (x i) (fold_andi _ _ h i (Finset.mem_filter.2 ⟨Finset.mem_univ _, by funext k; exact k.elim0⟩))

/-- Six conjoined questions, taken apart. -/
theorem six {a b c d e f : IVec S_ 1} (j : S_.Idx) (h : andi (andi (andi (andi (andi a b) c) d) e) f = fun _ => 1#1) :
    a j = 1#1 ∧ b j = 1#1 ∧ c j = 1#1 ∧ d j = 1#1 ∧ e j = 1#1 ∧ f j = 1#1 := by
  have h0 := congrFun h j
  obtain ⟨h1, hf⟩ := andi_one h0
  obtain ⟨h2, he⟩ := andi_one h1
  obtain ⟨h3, hd⟩ := andi_one h2
  obtain ⟨h4, hc⟩ := andi_one h3
  obtain ⟨ha, hb⟩ := andi_one h4
  exact ⟨ha, hb, hc, hd, he, hf⟩

variable [Facts]
open Facts

/-- The precondition is the question asked of the six arguments. -/
theorem fn_eq (a0 : FVec Ideal S32768x128 .f32) (a1 : FVec Ideal S128 .f32) (a2 : FVec Ideal S128x256 .f32)
    (a3 : FVec Ideal S256 .f32) (a4 : FVec Ideal S256x3200 .f32) (a5 : FVec Ideal S3200 .f32) :
    fn (F := Ideal) a0 a1 a2 a3 a4 a5
      = andi (andi (andi (andi (andi (ask bcast_S_S32768x128 reducesTo_S32768x128_S_d0_1 h_S_ a0)
          (ask bcast_S_S128 reducesTo_S128_S_d0 h_S_ a1)) (ask bcast_S_S128x256 reducesTo_S128x256_S_d0_1 h_S_ a2))
          (ask bcast_S_S256 reducesTo_S256_S_d0 h_S_ a3))
          (ask bcast_S_S256x3200 reducesTo_S256x3200_S_d0_1 h_S_ a4)) (ask bcast_S_S3200 reducesTo_S3200_S_d0 h_S_ a5) :=
  rfl

end Cert.Pre_finite

namespace Cert.KernelIdeal.Arrays

open Idealize.ShloMosaic Idealize.ShloMosaic.TcCoe Cert.KernelIdeal Cert.Spline Cert.Pre_finite

variable [Cert.Pre_finite.Facts]

/-- Under the precondition every argument of every device is finite. -/
theorem args_finite (m : (ℓ : Loc nD τ sig) → Buf (Elt Ideal) ℓ) (h : Cert.Pre_KernelIdeal_finite m) (c : Dev nD) :
    (args m c).AllFinite := by
  have hc := h c
  rw [fn_eq] at hc
  obtain ⟨h0, h1, h2, h3, h4, h5⟩ := six (Shape.Idx.first Cert.Pre_finite.Facts.h_S_) hc
  exact ⟨fun r l => ask_finite _ _ _ _ _ h0 (ix2 r l), fun l => ask_finite _ _ _ _ _ h1 (ix1 l),
    fun i j => ask_finite _ _ _ _ _ h2 (ix2 i j), fun j => ask_finite _ _ _ _ _ h3 (ix1 j),
    fun j n => ask_finite _ _ _ _ _ h4 (ix2 j n), fun n => ask_finite _ _ _ _ _ h5 (ix1 n)⟩

end Cert.KernelIdeal.Arrays

end
-- ==== Proof.RefTake.lean ====
module

public import proofs.«01_k».proof.Proof.Gen.ReferenceIdeal
public import Idealize.ShloMosaic.Lib.Pointwise

@[expose] public section

set_option maxRecDepth 16384

noncomputable section

/-! Taking one entry along the last axis at a word: the reference's wrapped word, its check against the
bounds, and the gather, read at one element when the word is in range. -/

namespace Cert.ReferenceIdeal.Take

open Idealize.ShloMosaic Cert.ReferenceIdeal Cert.ReferenceIdeal.Gen

/-- A small natural number's word, read signed. -/
theorem toInt_small {n : ℕ} (h : n < 16) : (BitVec.ofNat 32 n).toInt = (n : ℤ) := by
  interval_cases n <;> decide

/-- The gather's dimension numbers: one word per element of a matrix, naming a place on a third axis. -/
def dims (N M K : ℕ)
    (wf : GatherDims.WF ⟨3, ![N, M, K]⟩ ⟨4, ![N, M, 1, 1]⟩ ⟨3, ![N, M, 1]⟩ [] [2] [0, 1] [2] [0, 1] 3 ![1, 1, 1]) :
    GatherDims ⟨3, ![N, M, K]⟩ ⟨4, ![N, M, 1, 1]⟩ ⟨3, ![N, M, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather at an element whose word is the number of a place: the entry at that place. -/
theorem gather_at {α : Type} {N M K : ℕ}
    (wf : GatherDims.WF ⟨3, ![N, M, K]⟩ ⟨4, ![N, M, 1, 1]⟩ ⟨3, ![N, M, 1]⟩ [] [2] [0, 1] [2] [0, 1] 3 ![1, 1, 1])
    (x : (⟨3, ![N, M, K]⟩ : Shape).Idx → α) (idx : IVec ⟨4, ![N, M, 1, 1]⟩ 32) (r : Fin N) (l : Fin M) (k : Fin K)
    (hk : (idx (ix4 r l 0 0)).toInt = (k.val : ℤ)) :
    Host.gather (dims N M K wf) x idx (ix3 r l 0) = x (ix3 r l k) := by
  have hs : (dims N M K wf).siIdx (ix3 r l 0) ⟨0, Nat.one_pos⟩ = ix4 r l 0 0 := by
    funext a
    match a with
    | ⟨0, _⟩ => rfl
    | ⟨1, _⟩ => rfl
    | ⟨2, _⟩ => rfl
    | ⟨3, _⟩ => rfl
  refine congrArg x (funext fun a => Fin.ext ?_)
  match a with
  | ⟨0, _⟩ => exact (Nat.zero_add _).trans rfl
  | ⟨1, _⟩ => exact (Nat.zero_add _).trans rfl
  | ⟨2, _⟩ =>
    show min (idx ((dims N M K wf).siIdx (ix3 r l 0) ⟨0, Nat.one_pos⟩)).toInt.toNat (K - 1) + 0 + 0 = k.val
    rw [hs, hk]
    have := k.isLt
    omega

/-- A word moved up by `n` when it is negative, on one more axis. -/
def wrap (n : BitVec 32) (w : IVec S32768x128x1 32) : IVec S32768x128x1x1 32 :=
  shapeCast _ (select (cmpi .slt w (broadcastInDim S32768x128x1 ![] bcast_S_S32768x128x1 (constantI S_ 32 0#32)))
    (addi w (broadcastInDim S32768x128x1 ![] bcast_S_S32768x128x1 (constantI S_ 32 n))) w)
    shapeCasts_S32768x128x1_S32768x128x1x1

/-- A word that is a small natural number is not moved. -/
theorem wrap_at (n : BitVec 32) (w : IVec S32768x128x1 32) (r : Fin 32768) (l : Fin 128) {k : ℕ} (hk : k < 16)
    (h : w (ix3 r l 0) = BitVec.ofNat 32 k) : wrap n w (ix4 r l 0 0) = BitVec.ofNat 32 k := by
  have e : wrap n w (ix4 r l 0 0)
      = Scalar.select (IntOp.cmpi .slt (w (ix3 r l 0)) 0#32) (IntOp.addi (w (ix3 r l 0)) n) (w (ix3 r l 0)) := by
    unfold wrap
    pointwise
  rw [e, h]
  have : IntOp.cmpi .slt (BitVec.ofNat 32 k) 0#32 = 0#1 := by interval_cases k <;> decide
  rw [this]
  rfl

/-- The check of the words against the bounds 0 and `top`. -/
def inRange (top : BitVec 32) (w : IVec S32768x128x1x1 32) : IVec S32768x128x1 1 :=
  Host.reduce IntOp.andi (andi (cmpi .sge w (broadcastInDim S32768x128x1x1 ![] bcast_S_S32768x128x1x1 (constantI S_ 32 0#32)))
    (cmpi .sle w (broadcastInDim S32768x128x1x1 ![0, 1, 2, 3] bcast_S1x1x1x1_S32768x128x1x1_0_1_2_3
      (broadcastInDim S1x1x1x1 ![3] bcast_S1_S1x1x1x1_3 (constantI S1 32 top))))) (constantI S_ 1 1#1)
    reducesTo_S32768x128x1x1_S32768x128x1_d3 h_S_

/-- The check at an element is that of its word. -/
theorem inRange_at (top : BitVec 32) (w : IVec S32768x128x1x1 32) (r : Fin 32768) (l : Fin 128) :
    inRange top w (ix3 r l 0)
      = IntOp.andi (IntOp.andi (IntOp.cmpi .sge (w (ix4 r l 0 0)) 0#32) (IntOp.cmpi .sle (w (ix4 r l 0 0)) top)) 1#1 := by
  unfold inRange
  generalize hv : andi _ _ = v
  have hv' : v (ix4 r l 0 0) = IntOp.andi (IntOp.cmpi .sge (w (ix4 r l 0 0)) 0#32) (IntOp.cmpi .sle (w (ix4 r l 0 0)) top) := by
    rw [← hv]; rfl
  rw [← hv']
  pointwise
  simp

/-- One entry of eight per element, at a checked word; the other value where the check fails. -/
def take8 (x : FVec Ideal S32768x128x8 .f32) (w : IVec S32768x128x1x1 32) : FVec Ideal S32768x128 .f32 :=
  shapeCast _ (select (inRange 7#32 w) (Host.gather gather_S32768x128x8_S32768x128x1x1_S32768x128x1_n_2_01_01_2_3_111 x w)
    (broadcastInDim S32768x128x1 ![] bcast_S_S32768x128x1 (constant S_ .f32 0x7FC00000#32))) shapeCasts_S32768x128x1_S32768x128

/-- One entry of nine per element, likewise. -/
def take9 (x : FVec Ideal S32768x128x9 .f32) (w : IVec S32768x128x1x1 32) : FVec Ideal S32768x128 .f32 :=
  shapeCast _ (select (inRange 8#32 w) (Host.gather gather_S32768x128x9_S32768x128x1x1_S32768x128x1_n_2_01_01_2_3_111 x w)
    (broadcastInDim S32768x128x1 ![] bcast_S_S32768x128x1 (constant S_ .f32 0x7FC00000#32))) shapeCasts_S32768x128x1_S32768x128

/-- A cast that drops the last, one-long axis. -/
theorem drop_at {α : Type} (v : S32768x128x1.Idx → α) (r : Fin 32768) (l : Fin 128) :
    shapeCast S32768x128 v shapeCasts_S32768x128x1_S32768x128 (ix2 r l) = v (ix3 r l 0) := by
  pointwise

/-- The entry of eight at a word in range. -/
theorem take8_at (x : FVec Ideal S32768x128x8 .f32) (w : IVec S32768x128x1x1 32) (r : Fin 32768) (l : Fin 128) (k : Fin 8)
    (h : w (ix4 r l 0 0) = BitVec.ofNat 32 k.val) : take8 x w (ix2 r l) = x (ix3 r l k) := by
  have hg : Host.gather gather_S32768x128x8_S32768x128x1x1_S32768x128x1_n_2_01_01_2_3_111 x w (ix3 r l 0) = x (ix3 r l k) :=
    gather_at _ x w r l k (by rw [h, toInt_small (by omega)])
  unfold take8
  rw [drop_at]
  show Scalar.select (inRange 7#32 w (ix3 r l 0)) (Host.gather _ x w (ix3 r l 0)) _ = _
  rw [hg, inRange_at, h]
  have : IntOp.andi (IntOp.andi (IntOp.cmpi .sge (BitVec.ofNat 32 k.val) 0#32) (IntOp.cmpi .sle (BitVec.ofNat 32 k.val) 7#32)) 1#1 = 1#1 := by
    clear hg h; revert k; decide
  rw [this]
  rfl

/-- The entry of nine at a word in range. -/
theorem take9_at (x : FVec Ideal S32768x128x9 .f32) (w : IVec S32768x128x1x1 32) (r : Fin 32768) (l : Fin 128) (k : Fin 9)
    (h : w (ix4 r l 0 0) = BitVec.ofNat 32 k.val) : take9 x w (ix2 r l) = x (ix3 r l k) := by
  have hg : Host.gather gather_S32768x128x9_S32768x128x1x1_S32768x128x1_n_2_01_01_2_3_111 x w (ix3 r l 0) = x (ix3 r l k) :=
    gather_at _ x w r l k (by rw [h, toInt_small (by omega)])
  unfold take9
  rw [drop_at]
  show Scalar.select (inRange 8#32 w (ix3 r l 0)) (Host.gather _ x w (ix3 r l 0)) _ = _
  rw [hg, inRange_at, h]
  have : IntOp.andi (IntOp.andi (IntOp.cmpi .sge (BitVec.ofNat 32 k.val) 0#32) (IntOp.cmpi .sle (BitVec.ofNat 32 k.val) 8#32)) 1#1 = 1#1 := by
    clear hg h; revert k; decide
  rw [this]
  rfl

end Cert.ReferenceIdeal.Take

end
-- ==== Proof.RefEdges.lean ====
module

public import proofs.«01_k».proof.Proof.Gen.ReferenceIdeal
public import proofs.«01_k».proof.Proof.Spline
public import Idealize.ShloMosaic.Lib.Pointwise
public import Idealize.ShloMosaic.Lib.Routing.OpsPair

@[expose] public section

set_option maxRecDepth 16384

noncomputable section

/-! The reference's bin edges at one element: the running sum of the widths, a zero put before it, the
stretch onto [-3, 3], and the last edge moved up by an added constant. -/

namespace Cert.ReferenceIdeal.Edges

open Idealize.ShloMosaic Cert.ReferenceIdeal Cert.ReferenceIdeal.Gen Cert.Spline

/-- A sum from the left over a list of numbers below `N` is the sum over them. -/
theorem foldl_sum {N : ℕ} (v : EReal) (g : Fin N → EReal) :
    (List.finRange N).foldl (fun a n => a + g n) v = v + ∑ n, g n := by
  rw [← List.sum_ofFn, List.ofFn_eq_map]
  generalize List.finRange N = L
  induction L generalizing v with
  | nil => simp
  | cons n L ih => rw [List.foldl_cons, ih, List.map_cons, List.sum_cons, add_assoc]

/-- The window of the running sum: eight places on the last axis. -/
abbrev W : Shape := ⟨3, ![1, 1, 8]⟩

/-- The window's places are the numbers below eight. -/
def places : Fin 8 ≃ W.Idx where
  toFun n := ix3 0 0 n
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- The part of the running sum that place `n` of the window gives to entry `k`. -/
def part (f : Fin 8 → EReal) (k n : Fin 8) : EReal :=
  if h : 7 ≤ k.val + n.val then f ⟨k.val + n.val - 7, by omega⟩ else 0

/-- The parts sum to the entries up to `k`. -/
theorem sum_part (f : Fin 8 → EReal) (k : Fin 8) : ∑ n, part f k n = ∑ j : Fin 8, if j.val ≤ k.val then f j else 0 := by
  fin_cases k <;> simp [part, Fin.sum_univ_eight] <;> rfl

/-- The running sum of eight entries. -/
def running (x : FVec Ideal S32768x128x8 .f32) : FVec Ideal S32768x128x8 .f32 :=
  Host.reduceWindowAdd ![1, 1, 8] ![1, 1, 1] ![0, 0, 7] ![0, 0, 0] x
    (broadcastInDim S_ ![] bcast_S_S_ (constant S_ .f32 0x00000000#32))
    reduceWindows_S32768x128x8_S32768x128x8_w1s1p0_0_w1s1p0_0_w8s1p7_0 h_S_

/-- The running sum at an element. -/
theorem running_at (x : FVec Ideal S32768x128x8 .f32) (r : Fin 32768) (l : Fin 128) (k : Fin 8) :
    running x (ix3 r l k) = ∑ j : Fin 8, if j.val ≤ k.val then x (ix3 r l j) else 0 := by
  unfold running Host.reduceWindowAdd
  rw [Ideal.hostReduceWindowAdd_def]
  unfold Ideal.hostReduceWindowAdd Host.reduceWindow
  have hz : (broadcastInDim S_ ![] bcast_S_S_ (constant (F := Ideal) S_ .f32 0x00000000#32)) (Shape.Idx.first h_S_) = 0 :=
    Ideal.ofBits_zero_f32
  simp only [hz]
  refine (foldl_sum (N := W.numel) 0 _).trans ?_
  rw [zero_add, ← sum_part]
  refine Fintype.sum_equiv (W.rowMajor.symm.trans places.symm) _ _ fun n => ?_
  obtain ⟨q, hn⟩ : ∃ q, W.rowMajor.symm n = places q := ⟨places.symm _, (places.apply_symm_apply _).symm⟩
  have hq : (W.rowMajor.symm.trans places.symm) n = q := by
    rw [Equiv.trans_apply, hn, Equiv.symm_apply_apply]
  rw [hq]
  unfold part
  split
  · next h =>
    have h2 := h 2
    change 7 ≤ k.val * 1 + (W.rowMajor.symm n 2).val ∧ _ at h2
    rw [hn] at h2
    change 7 ≤ k.val * 1 + q.val ∧ _ at h2
    rw [dif_pos (by omega)]
    refine congrArg x (funext fun a => Fin.ext ?_)
    match a with
    | ⟨0, _⟩ =>
      show r.val * 1 + (W.rowMajor.symm n 0).val - 0 = r.val
      rw [hn]; show r.val * 1 + 0 - 0 = r.val; omega
    | ⟨1, _⟩ =>
      show l.val * 1 + (W.rowMajor.symm n 1).val - 0 = l.val
      rw [hn]; show l.val * 1 + 0 - 0 = l.val; omega
    | ⟨2, _⟩ =>
      show k.val * 1 + (W.rowMajor.symm n 2).val - 7 = k.val + q.val - 7
      rw [hn]; show k.val * 1 + q.val - 7 = _; omega
  · next h =>
    rw [dif_neg]
    intro h7
    refine h fun a => ?_
    have := r.isLt; have := l.isLt; have := k.isLt; have := q.isLt
    match a with
    | ⟨0, _⟩ =>
      show 0 ≤ r.val * 1 + (W.rowMajor.symm n 0).val ∧ r.val * 1 + (W.rowMajor.symm n 0).val - 0 < 32768
      rw [hn]; show 0 ≤ r.val * 1 + 0 ∧ r.val * 1 + 0 - 0 < 32768; omega
    | ⟨1, _⟩ =>
      show 0 ≤ l.val * 1 + (W.rowMajor.symm n 1).val ∧ l.val * 1 + (W.rowMajor.symm n 1).val - 0 < 128
      rw [hn]; show 0 ≤ l.val * 1 + 0 ∧ l.val * 1 + 0 - 0 < 128; omega
    | ⟨2, _⟩ =>
      show 7 ≤ k.val * 1 + (W.rowMajor.symm n 2).val ∧ k.val * 1 + (W.rowMajor.symm n 2).val - 7 < 8
      rw [hn]; show 7 ≤ k.val * 1 + q.val ∧ k.val * 1 + q.val - 7 < 8; omega

/-- Eight entries with a zero put before them. -/
def padded (x : FVec Ideal S32768x128x8 .f32) : FVec Ideal S32768x128x9 .f32 :=
  pad S32768x128x9 ![0, 0, 1] ![0, 0, 0] ![0, 0, 0] x (sitofp .f32 (constantI S_ 32 0#32))
    pads_S32768x128x8_S32768x128x9_000_000_100 h_S_

/-- The padded entries at an element. -/
theorem padded_at (x : FVec Ideal S32768x128x8 .f32) (r : Fin 32768) (l : Fin 128) (k : Fin 9) :
    padded x (ix3 r l k) = if h : 1 ≤ k.val then x (ix3 r l ⟨k.val - 1, by omega⟩) else 0 := by
  unfold padded pad
  split
  · next h =>
    have h2 : 1 ≤ k.val := (h 2).1
    rw [dif_pos h2]
    refine congrArg x (funext fun a => Fin.ext ?_)
    match a with
    | ⟨0, _⟩ => show (r.val - 0) / 1 = r.val; omega
    | ⟨1, _⟩ => show (l.val - 0) / 1 = l.val; omega
    | ⟨2, _⟩ => show (k.val - 1) / 1 = k.val - 1; omega
  · next h =>
    rw [dif_neg]
    · show (((0#32).toInt : ℝ) : EReal) = 0
      simp
    · intro h1
      refine h fun a => ?_
      have := r.isLt; have := l.isLt; have := k.isLt
      match a with
      | ⟨0, _⟩ => show 0 ≤ r.val ∧ (r.val - 0) % 1 = 0 ∧ (r.val - 0) / 1 < 32768; omega
      | ⟨1, _⟩ => show 0 ≤ l.val ∧ (l.val - 0) % 1 = 0 ∧ (l.val - 0) / 1 < 128; omega
      | ⟨2, _⟩ => show 1 ≤ k.val ∧ (k.val - 1) % 1 = 0 ∧ (k.val - 1) / 1 < 8; omega

/-- The edges: the padded running sum, less a half, times two, times three. -/
def edges (x : FVec Ideal S32768x128x8 .f32) : FVec Ideal S32768x128x9 .f32 :=
  mulf (mulf (subf (padded (running x)) (broadcastInDim S32768x128x9 ![] bcast_S_S32768x128x9 (constant S_ .f32 0x3F000000#32)))
    (broadcastInDim S32768x128x9 ![] bcast_S_S32768x128x9 (constant S_ .f32 0x40000000#32)))
    (broadcastInDim S32768x128x9 ![] bcast_S_S32768x128x9 (constant S_ .f32 0x40400000#32))

/-- The edges at an element are those of its eight widths. -/
theorem edges_at (x : FVec Ideal S32768x128x8 .f32) (r : Fin 32768) (l : Fin 128) (k : Fin 9) :
    edges x (ix3 r l k) = rEdge (fun j => x (ix3 r l j)) k := by
  show (padded (running x) (ix3 r l k) - lit 0x3F000000#32) * lit 0x40000000#32 * lit 0x40400000#32 = _
  rw [padded_at, rEdge]
  congr 3
  split
  · next h =>
    rw [running_at]
    refine Finset.sum_congr rfl fun j _ => if_congr ?_ rfl rfl
    show j.val ≤ k.val - 1 ↔ _
    omega
  · next h =>
    refine (Finset.sum_eq_zero fun j _ => if_neg ?_).symm
    omega

/-! ### The last edge moved up -/

/-- A fold in which one place of a list without repetition acts, and the others do nothing. -/
theorem foldl_one {ι α : Type} [DecidableEq ι] (L : List ι) (hL : L.Nodup) (p : ι → Prop) [DecidablePred p] (n₀ : ι)
    (hp : ∀ n, p n ↔ n = n₀) (hn : n₀ ∈ L) (g : α → ι → α) (a : α) :
    L.foldl (fun a n => if p n then g a n else a) a = g a n₀ := by
  have rest : ∀ (L : List ι) (a : α), n₀ ∉ L → L.foldl (fun a n => if p n then g a n else a) a = a := by
    intro L
    induction L with
    | nil => intro a _; rfl
    | cons n L ih =>
      intro a h
      rw [List.mem_cons, not_or] at h
      rw [List.foldl_cons, if_neg (fun e => h.1 ((hp n).1 e).symm), ih a h.2]
  induction L generalizing a with
  | nil => cases hn
  | cons n L ih =>
    rw [List.nodup_cons] at hL
    rw [List.foldl_cons]
    by_cases e : n = n₀
    · subst e
      rw [if_pos ((hp n).2 rfl), rest L _ hL.1]
    · rw [if_neg (fun q => e ((hp n).1 q))]
      exact ih hL.2 ((List.mem_cons.1 hn).resolve_left (fun q => e q.symm)) a

/-- A fold in which no place acts. -/
theorem foldl_none {ι α : Type} (L : List ι) (p : ι → Prop) [DecidablePred p] (hp : ∀ n, ¬ p n) (g : α → ι → α) (a : α) :
    L.foldl (fun a n => if p n then g a n else a) a = a := by
  induction L generalizing a with
  | nil => rfl
  | cons n L ih => rw [List.foldl_cons, if_neg (hp n), ih]

/-- The scatter's dimension numbers: one word naming a place on the third axis, a matrix of updates. -/
abbrev sdims : ScatterDims S32768x128x9 S1 S32768x128 := scatter_S32768x128x9_S1_S32768x128_01_2_2_0

/-- Where the update at (r', l') lands when the word is 8. -/
theorem lands (idx : IVec S1 32) (hidx : ∀ i, idx i = 8#32) (r' r : Fin 32768) (l' l : Fin 128) (k : Fin 9) :
    sdims.resultIdx? (ix2 r' l') idx = some (ix3 r l k) ↔ r' = r ∧ l' = l ∧ k.val = 8 := by
  rw [Routing.resultIdx?_eq_some]
  have h8 : (8#32 : BitVec 32).toInt = 8 := by decide
  have e0 : sdims.start (ix2 r' l') idx 0 + (sdims.window (ix2 r' l') 0 : ℤ) = 0 + (r'.val : ℤ) := rfl
  have e1 : sdims.start (ix2 r' l') idx 1 + (sdims.window (ix2 r' l') 1 : ℤ) = 0 + (l'.val : ℤ) := rfl
  have e2 : sdims.start (ix2 r' l') idx 2 + (sdims.window (ix2 r' l') 2 : ℤ) = 8 + 0 := by
    have : sdims.start (ix2 r' l') idx 2
        = (idx (sdims.siIdx (ix2 r' l') ⟨0, Nat.one_pos⟩)).toInt := rfl
    rw [this, hidx, h8]
    rfl
  constructor
  · intro h
    have h0 := h 0
    have h1 := h 1
    have h2 := h 2
    rw [e0] at h0
    rw [e1] at h1
    rw [e2] at h2
    change 0 + (r'.val : ℤ) = (r.val : ℤ) at h0
    change 0 + (l'.val : ℤ) = (l.val : ℤ) at h1
    change (8 : ℤ) + 0 = (k.val : ℤ) at h2
    exact ⟨Fin.ext (by omega), Fin.ext (by omega), by omega⟩
  · rintro ⟨rfl, rfl, hk⟩ a
    match a with
    | ⟨0, _⟩ => exact e0.trans (zero_add _)
    | ⟨1, _⟩ => exact e1.trans (zero_add _)
    | ⟨2, _⟩ => refine e2.trans ?_; show (8 : ℤ) + 0 = (k.val : ℤ); omega

/-- The edges with the last one moved up. -/
def moved (e : FVec Ideal S32768x128x9 .f32) : FVec Ideal S32768x128x9 .f32 :=
  Host.scatter sdims FloatOps.addf e (broadcastInDim S1 ![] bcast_S_S1 (constantI S_ 32 8#32))
    (broadcastInDim S32768x128 ![] bcast_S_S32768x128 (constant S_ .f32 0x358637BD#32))

/-- The moved edges at an element. -/
theorem moved_at (e : FVec Ideal S32768x128x9 .f32) (r : Fin 32768) (l : Fin 128) (k : Fin 9) :
    moved e (ix3 r l k) = lastUp (fun j => e (ix3 r l j)) k := by
  unfold moved
  rw [Routing.scatter_at]
  have hl : ∀ n, sdims.resultIdx? (S32768x128.rowMajor.symm n) (broadcastInDim S1 ![] bcast_S_S1 (constantI S_ 32 8#32)) = some (ix3 r l k)
      ↔ S32768x128.rowMajor.symm n = ix2 r l ∧ k.val = 8 := by
    intro n
    generalize S32768x128.rowMajor.symm n = j
    idx_vars j
    refine (lands _ (fun _ => rfl) j0 r j1 l k).trans ?_
    constructor
    · rintro ⟨rfl, rfl, h⟩; exact ⟨rfl, h⟩
    · rintro ⟨h, hk⟩; exact ⟨congrFun h 0, congrFun h 1, hk⟩
  unfold lastUp
  by_cases hk : k = 8
  · rw [if_pos hk]
    refine (foldl_one _ (List.nodup_finRange _) _ (S32768x128.rowMajor (ix2 r l)) (fun n => (hl n).trans ?_) (List.mem_finRange _) _ _).trans rfl
    rw [Equiv.symm_apply_eq]
    exact and_iff_left (by rw [hk]; rfl)
  · rw [if_neg hk]
    refine foldl_none _ _ (fun n h => hk (Fin.ext ((hl n).1 h).2)) _ _

end Cert.ReferenceIdeal.Edges

end
-- ==== Proof.RefCount.lean ====
module

public import proofs.«01_k».proof.Proof.Gen.ReferenceIdeal
public import proofs.«01_k».proof.Proof.Index
public import Idealize.ShloMosaic.Lib.Pointwise

@[expose] public section

set_option maxRecDepth 16384

noncomputable section

/-! The word of the reference's bin number: the count of the edges at or below a point, less one, kept
within 0 and 7, at one element. -/

namespace Cert.ReferenceIdeal.Count

open Idealize.ShloMosaic Cert.ReferenceIdeal Cert.ReferenceIdeal.Gen Cert.Spline

/-- The points repeated along a third axis of nine. -/
def along9 (v : FVec Ideal S32768x128 .f32) : FVec Ideal S32768x128x9 .f32 :=
  broadcastInDim S32768x128x9 ![0, 1, 2] bcast_S32768x128x1_S32768x128x9_0_1_2
    (broadcastInDim S32768x128x1 ![0, 1] bcast_S32768x128_S32768x128x1_0_1 v)

/-- The repeated points at an element. -/
theorem along9_at (v : FVec Ideal S32768x128 .f32) (r : Fin 32768) (l : Fin 128) (k : Fin 9) :
    along9 v (ix3 r l k) = v (ix2 r l) := by
  unfold along9
  pointwise

/-- Per edge a one where it is at or below the point. -/
def below (v : FVec Ideal S32768x128 .f32) (e : FVec Ideal S32768x128x9 .f32) : IVec S32768x128x9 32 :=
  extui 32 (cmpf .oge (along9 v) e) natLt_1_32

/-- The mark of an edge. -/
theorem below_at (v : FVec Ideal S32768x128 .f32) (e : FVec Ideal S32768x128x9 .f32) (r : Fin 32768) (l : Fin 128) (k : Fin 9) :
    below v e (ix3 r l k) = BitVec.ofNat 32 (if e (ix3 r l k) ≤ v (ix2 r l) then 1 else 0) := by
  show (Ideal.cmp .oge (along9 v (ix3 r l k)) (e (ix3 r l k))).setWidth 32 = _
  rw [along9_at]
  unfold Ideal.cmp
  by_cases h : e (ix3 r l k) ≤ v (ix2 r l) <;> simp [h]

/-- The sum of nine words. -/
def total (w : IVec S32768x128x9 32) : IVec S32768x128 32 :=
  Host.reduce IntOp.addi w (constantI S_ 32 0#32) reducesTo_S32768x128x9_S32768x128_d2 h_S_

/-- A sum of words of natural numbers is the word of the sum. -/
theorem fold_ofNat {ι : Type} [DecidableEq ι] (s : Finset ι) (f : ι → ℕ) :
    Finset.fold IntOp.addi 0#32 (fun i => BitVec.ofNat 32 (f i)) s = BitVec.ofNat 32 (∑ i ∈ s, f i) := by
  induction s using Finset.induction_on with
  | empty => rfl
  | insert i s hi ih =>
    rw [Finset.fold_insert hi, ih, Finset.sum_insert hi]
    exact (BitVec.ofNat_add _ _).symm

/-- The sum at an element is that of its nine words. -/
theorem total_at (w : IVec S32768x128x9 32) (r : Fin 32768) (l : Fin 128) :
    total w (ix2 r l) = Finset.fold IntOp.addi 0#32 (fun k : Fin 9 => w (ix3 r l k)) Finset.univ := by
  unfold total
  rw [Host.reduce_eq_fold]
  pointwise

/-- The bin number's word. -/
def binWord (v : FVec Ideal S32768x128 .f32) (e : FVec Ideal S32768x128x9 .f32) : IVec S32768x128 32 :=
  minsi (broadcastInDim S32768x128 ![] bcast_S_S32768x128 (id (constantI S_ 32 7#32)))
    (maxsi (broadcastInDim S32768x128 ![] bcast_S_S32768x128 (id (constantI S_ 32 0#32)))
      (subi (total (below v e)) (broadcastInDim S32768x128 ![] bcast_S_S32768x128 (constantI S_ 32 1#32))))

/-- There are nine edges. -/
theorem rCount_le (x : EReal) (e : Fin 9 → EReal) : rCount x e ≤ 9 := by
  unfold rCount
  refine (Finset.sum_le_card_nsmul _ _ 1 fun k _ => ?_).trans (by simp)
  split <;> omega

/-- The bin number's word at an element. -/
theorem binWord_at (v : FVec Ideal S32768x128 .f32) (e : FVec Ideal S32768x128x9 .f32) (r : Fin 32768) (l : Fin 128) :
    binWord v e (ix2 r l) = BitVec.ofNat 32 (rBinNo (v (ix2 r l)) fun k => e (ix3 r l k)).val := by
  show IntOp.minsi 7#32 (IntOp.maxsi 0#32 (IntOp.subi (total (below v e) (ix2 r l)) 1#32)) = _
  rw [total_at]
  simp only [below_at, fold_ofNat]
  show IntOp.minsi 7#32 (IntOp.maxsi 0#32 (IntOp.subi (BitVec.ofNat 32 (rCount (v (ix2 r l)) fun k => e (ix3 r l k))) 1#32))
    = BitVec.ofNat 32 (min 7 ((rCount (v (ix2 r l)) fun k => e (ix3 r l k)) - 1))
  have h := rCount_le (v (ix2 r l)) fun k => e (ix3 r l k)
  generalize (rCount (v (ix2 r l)) fun k => e (ix3 r l k)) = n at h ⊢
  interval_cases n <;> decide

end Cert.ReferenceIdeal.Count

end
-- ==== Proof.RefApply.lean ====
module

public import Idealize.ShloMosaic.PureOps.Ideal

@[expose] public section

noncomputable section

/-! The elementwise operations over the extended reals, each read at an index. -/

namespace Cert.Apply

open Idealize.ShloMosaic

variable {s : Shape} (x y : FVec Ideal s .f32) (p q : IVec s 1) (i : s.Idx)

/-- A sum at an index. -/
theorem add_at : addf x y i = x i + y i := rfl
/-- A difference at an index. -/
theorem sub_at : subf x y i = x i - y i := rfl
/-- A product at an index. -/
theorem mul_at : mulf x y i = x i * y i := rfl
/-- A quotient at an index. -/
theorem div_at : Host.divf x y i = Ideal.div (x i) (y i) := rfl
/-- The greater at an index. -/
theorem max_at : maximumf x y i = max (x i) (y i) := rfl
/-- The lesser at an index. -/
theorem min_at : minimumf x y i = min (x i) (y i) := rfl
/-- An exponential at an index. -/
theorem exp_at : Host.exp x i = Ideal.exp (x i) := rfl
/-- A logarithm at an index. -/
theorem log_at : Host.log x i = Ideal.log (x i) := rfl
/-- A choice at an index. -/
theorem select_at : select p x y i = Scalar.select (p i) (x i) (y i) := rfl
/-- The test of a number against a lower bound. -/
theorem oge_at : cmpf .oge x y i = Ideal.cmp .oge (x i) (y i) := rfl
/-- The test of a number against an upper bound. -/
theorem ole_at : cmpf .ole x y i = Ideal.cmp .ole (x i) (y i) := rfl
/-- Both of two tests. -/
theorem and_at : andi p q i = Scalar.andi (p i) (q i) := rfl

end Cert.Apply

end
-- ==== Proof.RefParams.lean ====
module

public import proofs.«01_k».proof.Proof.Gen.ReferenceIdeal
public import proofs.«01_k».proof.Proof.Result
public import proofs.«01_k».proof.Proof.RefApply
public import Idealize.ShloMosaic.Lib.Pointwise

@[expose] public section

set_option maxRecDepth 16384

noncomputable section

/-! The reference's masked points and its network, read at one element. -/

namespace Cert.ReferenceIdeal.Params

open Idealize.ShloMosaic Cert.ReferenceIdeal Cert.ReferenceIdeal.Gen Cert.Spline

variable (x : FVec Ideal S32768x128 .f32) (mask : FVec Ideal S128 .f32) (W1 : FVec Ideal S128x256 .f32)
  (b1 : FVec Ideal S256 .f32) (W2 : FVec Ideal S256x3200 .f32) (b2 : FVec Ideal S3200 .f32)

/-- A row repeated down the points. -/
def down (v : FVec Ideal S128 .f32) : FVec Ideal S32768x128 .f32 :=
  broadcastInDim S32768x128 ![0, 1] bcast_S1x128_S32768x128_0_1 (broadcastInDim S1x128 ![1] bcast_S128_S1x128_1 v)

/-- The repeated row at an element. -/
theorem down_at (v : FVec Ideal S128 .f32) (r : Fin 32768) (l : Fin 128) : down v (ix2 r l) = v (ix1 l) := by
  unfold down
  pointwise

/-- One less the mask. -/
def other : FVec Ideal S128 .f32 := subf (broadcastInDim S128 ![] bcast_S_S128 (constant S_ .f32 0x3F800000#32)) mask

/-- One less the mask, at a place. -/
theorem other_at (l : Fin 128) : other mask (ix1 l) = 1 - mask (ix1 l) := by
  unfold other
  pointwise

/-- What the mask keeps of the points. -/
def kept : FVec Ideal S32768x128 .f32 := mulf x (down mask)

/-- What the mask leaves of the points. -/
def rest : FVec Ideal S32768x128 .f32 := mulf x (down (other mask))

/-- The kept part at an element. -/
theorem kept_at (r : Fin 32768) (l : Fin 128) : kept x mask (ix2 r l) = x (ix2 r l) * mask (ix1 l) := by
  unfold kept
  rw [Apply.mul_at, down_at]

/-- The other part at an element. -/
theorem rest_at (r : Fin 32768) (l : Fin 128) : rest x mask (ix2 r l) = x (ix2 r l) * (1 - mask (ix1 l)) := by
  unfold rest
  rw [Apply.mul_at, down_at, other_at]

/-- The first layer before its positive part is taken. -/
def hidden : FVec Ideal S32768x256 .f32 :=
  addf (Host.dotGeneral dot_S32768x128_S128x256_S32768x256_1_0_0_1_n_n none x W1)
    (broadcastInDim S32768x256 ![0, 1] bcast_S1x256_S32768x256_0_1 (broadcastInDim S1x256 ![1] bcast_S256_S1x256_1 b1))

/-- The first layer at an element. -/
theorem hidden_at (r : Fin 32768) (j : Fin 256) :
    hidden x W1 b1 (ix2 r j) = (∑ i : Fin 128, x (ix2 r i) * W1 (ix2 i j)) + b1 (ix1 j) := by
  unfold hidden
  pointwise

/-- The positive part of the first layer. -/
def positive (h : FVec Ideal S32768x256 .f32) : FVec Ideal S32768x256 .f32 :=
  maximumf h (broadcastInDim S32768x256 ![] bcast_S_S32768x256 (constant S_ .f32 0x00000000#32))

/-- The positive part at an index. -/
theorem positive_at (h : FVec Ideal S32768x256 .f32) (r : Fin 32768) (j : Fin 256) :
    positive h (ix2 r j) = max (h (ix2 r j)) 0 := by
  unfold positive
  pointwise

/-- The second layer. -/
def last (h : FVec Ideal S32768x256 .f32) : FVec Ideal S32768x3200 .f32 :=
  addf (Host.dotGeneral dot_S32768x256_S256x3200_S32768x3200_1_0_0_1_n_n none h W2)
    (broadcastInDim S32768x3200 ![0, 1] bcast_S1x3200_S32768x3200_0_1 (broadcastInDim S1x3200 ![1] bcast_S3200_S1x3200_1 b2))

/-- The second layer at an element. -/
theorem last_at (h : FVec Ideal S32768x256 .f32) (r : Fin 32768) (n : Fin 3200) :
    last W2 b2 h (ix2 r n) = (∑ j : Fin 256, h (ix2 r j) * W2 (ix2 j n)) + b2 (ix1 n) := by
  unfold last
  pointwise

/-- The parameters, twenty-five to an element. -/
def split (p : FVec Ideal S32768x3200 .f32) : FVec Ideal S32768x128x25 .f32 :=
  shapeCast _ p shapeCasts_S32768x3200_S32768x128x25

/-- A parameter of an element. -/
theorem split_at (p : FVec Ideal S32768x3200 .f32) (r : Fin 32768) (l : Fin 128) (k : Fin 25) :
    split p (ix3 r l k) = p (ix2 r (ownCol l k)) := by
  unfold split ownCol
  pointwise
  exact congrArg (fun n => p (ix2 r n)) (Fin.ext (congrArg (· + k.val) (Nat.mul_comm l.val 25)))

/-- The parameters of every element. -/
def net : FVec Ideal S32768x128x25 .f32 := split (last W2 b2 (positive (hidden x W1 b1)))

/-- The parameters at an element. -/
theorem net_at (r : Fin 32768) (l : Fin 128) (k : Fin 25) : net x W1 b1 W2 b2 (ix3 r l k)
    = param (fun i => x (ix2 r i)) (fun i j => W1 (ix2 i j)) (fun j => b1 (ix1 j)) (fun j => W2 (ix2 j (ownCol l k)))
        (b2 (ix1 (ownCol l k))) := by
  unfold net param
  rw [split_at, last_at]
  simp only [positive_at, hidden_at]

/-- The eight width parameters of every element. -/
def wPart (p : FVec Ideal S32768x128x25 .f32) : FVec Ideal S32768x128x8 .f32 :=
  extractStridedSlice S32768x128x8 ![0, 0, 0] p slices_S32768x128x25_S32768x128x8_0_0_0

/-- The eight height parameters of every element. -/
def hPart (p : FVec Ideal S32768x128x25 .f32) : FVec Ideal S32768x128x8 .f32 :=
  extractStridedSlice S32768x128x8 ![0, 0, 8] p slices_S32768x128x25_S32768x128x8_0_0_8

/-- The nine slope parameters of every element. -/
def dPart (p : FVec Ideal S32768x128x25 .f32) : FVec Ideal S32768x128x9 .f32 :=
  extractStridedSlice S32768x128x9 ![0, 0, 16] p slices_S32768x128x25_S32768x128x9_0_0_16

/-- A width parameter. -/
theorem wPart_at (p : FVec Ideal S32768x128x25 .f32) (r : Fin 32768) (l : Fin 128) (k : Fin 8) :
    wPart p (ix3 r l k) = uW (fun j => p (ix3 r l j)) k := by
  unfold wPart uW
  pointwise

/-- A height parameter. -/
theorem hPart_at (p : FVec Ideal S32768x128x25 .f32) (r : Fin 32768) (l : Fin 128) (k : Fin 8) :
    hPart p (ix3 r l k) = uH (fun j => p (ix3 r l j)) k := by
  unfold hPart uH
  pointwise

/-- A slope parameter. -/
theorem dPart_at (p : FVec Ideal S32768x128x25 .f32) (r : Fin 32768) (l : Fin 128) (k : Fin 9) :
    dPart p (ix3 r l k) = uD (fun j => p (ix3 r l j)) k := by
  unfold dPart uD
  pointwise

end Cert.ReferenceIdeal.Params

end
-- ==== Proof.RefWidths.lean ====
module

public import proofs.«01_k».proof.Proof.Gen.ReferenceIdeal
public import proofs.«01_k».proof.Proof.Spline
public import proofs.«01_k».proof.Proof.RefApply
public import Idealize.ShloMosaic.Lib.Pointwise

@[expose] public section

set_option maxRecDepth 16384

noncomputable section

/-! The reference's bin widths and slopes, read at one element. -/

namespace Cert.ReferenceIdeal.Widths

open Idealize.ShloMosaic Cert.ReferenceIdeal Cert.ReferenceIdeal.Gen Cert.Spline Cert.Apply

/-- A matrix repeated along a third axis of eight. -/
def along8 (v : FVec Ideal S32768x128 .f32) : FVec Ideal S32768x128x8 .f32 :=
  broadcastInDim S32768x128x8 ![0, 1, 2] bcast_S32768x128x1_S32768x128x8_0_1_2
    (broadcastInDim S32768x128x1 ![0, 1] bcast_S32768x128_S32768x128x1_0_1 v)

/-- The repeated matrix at an element. -/
theorem along8_at (v : FVec Ideal S32768x128 .f32) (r : Fin 32768) (l : Fin 128) (k : Fin 8) :
    along8 v (ix3 r l k) = v (ix2 r l) := by
  unfold along8
  pointwise

/-- A constant over every element. -/
def all (b : BitVec 32) : FVec Ideal S32768x128 .f32 :=
  broadcastInDim S32768x128 ![] bcast_S_S32768x128 (constant S_ .f32 b)

/-- A constant over the eight numbers of every element. -/
def all8 (b : BitVec 32) : FVec Ideal S32768x128x8 .f32 :=
  broadcastInDim S32768x128x8 ![] bcast_S_S32768x128x8 (constant S_ .f32 b)

/-- The constant at an index. -/
theorem all_at (b : BitVec 32) (i : S32768x128.Idx) : all b i = lit b := rfl

/-- The constant at an index. -/
theorem all8_at (b : BitVec 32) (i : S32768x128x8.Idx) : all8 b i = lit b := rfl

/-- The greatest of each eight numbers, by the reduction alone. -/
def reduced (x : FVec Ideal S32768x128x8 .f32) : FVec Ideal S32768x128 .f32 :=
  Host.reduce FloatOps.maximumf x (constant S_ .f32 0xFF800000#32) reducesTo_S32768x128x8_S32768x128_d2 h_S_

/-- The greatest of each eight numbers. -/
def greatest (x : FVec Ideal S32768x128x8 .f32) : FVec Ideal S32768x128 .f32 :=
  maximumf (all 0xFF800000#32) (reduced x)

/-- A maximum from minus infinity is the greatest. -/
theorem fold_max (f : Fin 8 → EReal) : Finset.fold max ⊥ f Finset.univ = rMax f := rfl

/-- The reduction at an element. -/
theorem reduced_at (x : FVec Ideal S32768x128x8 .f32) (r : Fin 32768) (l : Fin 128) :
    reduced x (ix2 r l) = Finset.fold max ⊥ (fun j : Fin 8 => x (ix3 r l j)) Finset.univ := by
  rw [← lit_neg_inf]
  unfold reduced
  pointwise

/-- The greatest at an element. -/
theorem greatest_at (x : FVec Ideal S32768x128x8 .f32) (r : Fin 32768) (l : Fin 128) :
    greatest x (ix2 r l) = rMax fun j => x (ix3 r l j) := by
  unfold greatest
  rw [max_at, all_at, lit_neg_inf, max_eq_right bot_le, reduced_at, fold_max]

/-- The exponentials of the numbers less the greatest. -/
def exps (x : FVec Ideal S32768x128x8 .f32) : FVec Ideal S32768x128x8 .f32 := Host.exp (subf x (along8 (greatest x)))

/-- The exponentials at an element. -/
theorem exps_at (x : FVec Ideal S32768x128x8 .f32) (r : Fin 32768) (l : Fin 128) (k : Fin 8) :
    exps x (ix3 r l k) = rExp (fun j => x (ix3 r l j)) k := by
  unfold exps
  rw [exp_at, sub_at, along8_at, greatest_at]
  rfl

/-- The sum of each eight numbers. -/
def sums (x : FVec Ideal S32768x128x8 .f32) : FVec Ideal S32768x128 .f32 :=
  Host.reduceAdd x (constant S_ .f32 0x00000000#32) reducesTo_S32768x128x8_S32768x128_d2 h_S_

/-- The sum at an element. -/
theorem sums_at (x : FVec Ideal S32768x128x8 .f32) (r : Fin 32768) (l : Fin 128) :
    sums x (ix2 r l) = ∑ j : Fin 8, x (ix3 r l j) := by
  unfold sums
  pointwise

/-- The widths. -/
def widths (x : FVec Ideal S32768x128x8 .f32) : FVec Ideal S32768x128x8 .f32 :=
  addf (all8 0x3A83126F#32)
    (mulf (all8 0x3F7DF3B6#32)
      (Host.divf (exps x) (along8 (sums (exps x)))))

/-- The widths at an element are those of its eight numbers. -/
theorem widths_at (x : FVec Ideal S32768x128x8 .f32) (r : Fin 32768) (l : Fin 128) (k : Fin 8) :
    widths x (ix3 r l k) = rWidth (fun j => x (ix3 r l j)) k := by
  unfold widths
  rw [add_at, mul_at, div_at, all8_at, all8_at, along8_at, sums_at]
  simp only [exps_at]
  rfl

/-- A constant over the nine numbers of every element. -/
def all9 (b : BitVec 32) : FVec Ideal S32768x128x9 .f32 :=
  broadcastInDim S32768x128x9 ![] bcast_S_S32768x128x9 (constant S_ .f32 b)

/-- The slopes. -/
def slopes (x : FVec Ideal S32768x128x9 .f32) : FVec Ideal S32768x128x9 .f32 :=
  addf (select (cmpf .une (subf x (all9 0x00000000#32)) (subf x (all9 0x00000000#32))) (addf x (all9 0x00000000#32))
    (addf (maximumf x (all9 0x00000000#32)) (Host.log1p (Host.exp (Host.negf (Host.absf (subf x (all9 0x00000000#32)))))))) (all9 0x3A83126F#32)

/-- The slopes at an index. -/
theorem slopes_at (x : FVec Ideal S32768x128x9 .f32) (i : S32768x128x9.Idx) : slopes x i = slope (x i) := by
  show Scalar.select (Ideal.cmp .une (x i - lit 0x00000000#32) (x i - lit 0x00000000#32)) (x i + lit 0x00000000#32)
    (max (x i) (lit 0x00000000#32) + Ideal.log1p (Ideal.exp (-(max (x i - lit 0x00000000#32) (-(x i - lit 0x00000000#32)))))) + lit 0x3A83126F#32 = _
  generalize x i = u
  have hz : lit 0x00000000#32 = 0 := Ideal.ofBits_zero_f32
  rw [hz, sub_zero]
  have : Ideal.cmp .une u u = 0#1 := by simp [Ideal.cmp]
  rw [this]
  rfl

end Cert.ReferenceIdeal.Widths

end
-- ==== Proof.RefTail.lean ====
module

public import proofs.«01_k».proof.Proof.RefWidths

@[expose] public section

set_option maxRecDepth 16384

noncomputable section

/-! What the reference computes inside a bin, over whole arrays of the bins' numbers, read at an element. -/

namespace Cert.ReferenceIdeal.Tail

open Idealize.ShloMosaic Cert.ReferenceIdeal Cert.ReferenceIdeal.Gen Cert.Spline Cert.Apply
open Cert.ReferenceIdeal.Widths (all all_at)

/-- The arrays of the numbers of every element's bin. -/
structure Bins where
  /-- the left edge -/
  cw : FVec Ideal S32768x128 .f32
  /-- the width -/
  ww : FVec Ideal S32768x128 .f32
  /-- the lower edge -/
  ch : FVec Ideal S32768x128 .f32
  /-- the height -/
  hh : FVec Ideal S32768x128 .f32
  /-- the slope at the left edge -/
  di : FVec Ideal S32768x128 .f32
  /-- the slope at the right edge -/
  di1 : FVec Ideal S32768x128 .f32

/-- The bin of one element. -/
def Bins.at (b : Bins) (i : S32768x128.Idx) : Bin := ⟨b.cw i, b.ww i, b.ch i, b.hh i, b.di i, b.di1 i⟩

variable (x v s t p q : FVec Ideal S32768x128 .f32) (b : Bins) (i : S32768x128.Idx)

/-- A number kept between two constants. -/
def keep (hi lo : BitVec 32) : FVec Ideal S32768x128 .f32 := minimumf (all hi) (maximumf (all lo) v)

/-- The kept number at an index. -/
theorem keep_at (hi lo : BitVec 32) : keep v hi lo i = min (lit hi) (max (lit lo) (v i)) := by
  unfold keep
  rw [min_at, max_at, all_at, all_at]

/-- The slope of the bin. -/
def slope : FVec Ideal S32768x128 .f32 := Host.divf b.hh b.ww

/-- The slope at an index. -/
theorem slope_at : slope b i = rSlope (b.at i) := rfl

/-- The place in the bin. -/
def theta : FVec Ideal S32768x128 .f32 := keep (Host.divf (subf x b.cw) b.ww) 0x3F800000#32 0x00000000#32

/-- The place at an index. -/
theorem theta_at : theta x b i = rTheta (x i) (b.at i) := by
  unfold theta
  rw [keep_at, div_at, sub_at]
  rfl

/-- One less the place. -/
def left : FVec Ideal S32768x128 .f32 := subf (all 0x3F800000#32) t

/-- One less the place, at an index. -/
theorem left_at : left t i = lit 0x3F800000#32 - t i := by
  unfold left
  rw [sub_at, all_at]

/-- The place times one less the place. -/
def both : FVec Ideal S32768x128 .f32 := mulf t (left t)

/-- That product at an index. -/
theorem both_at : both t i = t i * (lit 0x3F800000#32 - t i) := by
  unfold both
  rw [mul_at, left_at]

/-- The denominator, before it is bounded below. -/
def den : FVec Ideal S32768x128 .f32 :=
  maximumf (addf s (mulf (subf (addf b.di b.di1) (mulf (all 0x40000000#32) s)) (both t))) (all 0x358637BD#32)

/-- The denominator at an index. -/
theorem den_at : den s t b i = denom (s i) (t i) (b.at i) := by
  unfold den
  rw [max_at, add_at, mul_at, sub_at, add_at, mul_at, both_at, all_at, all_at]
  rfl

/-- The spline's value, from the slope, the place and the denominator. -/
def value (d : FVec Ideal S32768x128 .f32) : FVec Ideal S32768x128 .f32 :=
  addf b.ch (mulf (Host.divf (mulf s (addf (mulf b.di1 (mulf t t)) (mulf s (both t)))) d) b.ww)

/-- The value at an index. -/
theorem value_at (d : FVec Ideal S32768x128 .f32) :
    value s t b d i = b.ch i + Ideal.div (valNum (s i) (t i) (b.at i)) (d i) * b.ww i := by
  unfold value
  rw [add_at, mul_at, div_at, mul_at, add_at, mul_at, mul_at, mul_at, both_at]
  rfl

/-- The logarithm of the spline's derivative. -/
def logDer (d : FVec Ideal S32768x128 .f32) : FVec Ideal S32768x128 .f32 :=
  Host.log (maximumf (Host.divf (mulf (mulf s s)
    (addf (addf (mulf b.di1 (mulf t t)) (mulf (mulf (all 0x40000000#32) s) (both t))) (mulf b.di (mulf (left t) (left t)))))
    (mulf d d)) (all 0x2B8CBCCC#32))

/-- The logarithm at an index. -/
theorem logDer_at (d : FVec Ideal S32768x128 .f32) : logDer s t b d i
    = Ideal.log (max (Ideal.div (derNum (s i) (t i) (b.at i)) (d i * d i)) (lit 0x2B8CBCCC#32)) := by
  unfold logDer
  rw [log_at, max_at, div_at, mul_at, mul_at, add_at, add_at, mul_at, mul_at, mul_at, mul_at, mul_at, mul_at, mul_at,
    both_at, left_at, all_at, all_at]
  rfl

/-- One of two numbers, by whether the point lies within -3 and 3. -/
def within : FVec Ideal S32768x128 .f32 :=
  select (andi (cmpf .oge x (all 0xC0400000#32)) (cmpf .ole x (all 0x40400000#32))) p q

/-- The choice at an index. -/
theorem within_at : within x p q i = inside (x i) (p i) (q i) := by
  unfold within
  rw [select_at, and_at, oge_at, ole_at, all_at, all_at]
  rfl

/-- The first result. -/
def out : FVec Ideal S32768x128 .f32 :=
  addf s (mulf (within x (value (slope b) (theta x b) b (den (slope b) (theta x b) b)) x) t)

/-- The first result at an index: `s` is what the mask keeps, `t` one less the mask. -/
theorem out_at : out x s t b i = s i + inside (x i) (rValue (x i) (b.at i)) (x i) * t i := by
  unfold out
  rw [add_at, mul_at, within_at, value_at, den_at, slope_at, theta_at]
  rfl

/-- An element's share of the second result. -/
def share : FVec Ideal S32768x128 .f32 :=
  mulf (within x (logDer (slope b) (theta x b) b (den (slope b) (theta x b) b)) (all 0x00000000#32)) t

/-- The share at an index. -/
theorem share_at : share x t b i = inside (x i) (rLogDer (x i) (b.at i)) (lit 0x00000000#32) * t i := by
  unfold share
  rw [mul_at, within_at, logDer_at, den_at, slope_at, theta_at, all_at]
  rfl

/-- The second result: each row's shares summed. -/
def rows : FVec Ideal S32768x1 .f32 :=
  broadcastInDim S32768x1 ![0] bcast_S32768_S32768x1_0
    (Host.reduceAdd v (constant S_ .f32 0x00000000#32) reducesTo_S32768x128_S32768_d1 h_S_)

/-- The second result at a row. -/
theorem rows_at (r : Fin 32768) : rows v (ix2 r 0) = ∑ l : Fin 128, v (ix2 r l) := by
  unfold rows
  pointwise

end Cert.ReferenceIdeal.Tail

end
-- ==== Proof.RefResult.lean ====
module

public import proofs.«01_k».proof.Proof.Gen.ReferenceIdeal.Run
public import proofs.«01_k».proof.Proof.RefTake
public import proofs.«01_k».proof.Proof.RefEdges
public import proofs.«01_k».proof.Proof.RefCount
public import proofs.«01_k».proof.Proof.RefParams
public import proofs.«01_k».proof.Proof.RefTail

@[expose] public section

set_option maxRecDepth 16384

noncomputable section

/-! The reference's two results at an element and at a row are those of its arguments. -/

namespace Cert.ReferenceIdeal.Result

open Idealize.ShloMosaic Cert.ReferenceIdeal Cert.ReferenceIdeal.Gen Cert.ReferenceIdeal.Value Cert.Spline
open Cert.ReferenceIdeal.Params Cert.ReferenceIdeal.Widths Cert.ReferenceIdeal.Edges Cert.ReferenceIdeal.Count
open Cert.ReferenceIdeal.Take Cert.ReferenceIdeal.Tail

variable (V : Valuation τ sig (Elt Ideal))

/-- The points. -/
abbrev a0 : FVec Ideal S32768x128 .f32 := V (Proc.devRef .tc main_arg0)
/-- The mask. -/
abbrev a1 : FVec Ideal S128 .f32 := V (Proc.devRef .tc main_arg1)
/-- The first layer's weights. -/
abbrev a2 : FVec Ideal S128x256 .f32 := V (Proc.devRef .tc main_arg2)
/-- The first layer's bias. -/
abbrev a3 : FVec Ideal S256 .f32 := V (Proc.devRef .tc main_arg3)
/-- The second layer's weights. -/
abbrev a4 : FVec Ideal S256x3200 .f32 := V (Proc.devRef .tc main_arg4)
/-- The second layer's bias. -/
abbrev a5 : FVec Ideal S3200 .f32 := V (Proc.devRef .tc main_arg5)

/-- The arguments, by their coordinates. -/
def args : Args where
  x r l := a0 V (ix2 r l)
  mask l := a1 V (ix1 l)
  W1 i j := a2 V (ix2 i j)
  b1 j := a3 V (ix1 j)
  W2 j n := a4 V (ix2 j n)
  b2 n := a5 V (ix1 n)

/-- The parameters of every element. -/
def par : FVec Ideal S32768x128x25 .f32 := net (kept (a0 V) (a1 V)) (a2 V) (a3 V) (a4 V) (a5 V)

/-- The points that the mask leaves. -/
def pts : FVec Ideal S32768x128 .f32 := rest (a0 V) (a1 V)

/-- The widths of every element's bins. -/
def ws : FVec Ideal S32768x128x8 .f32 := widths (wPart (par V))

/-- The heights of every element's bins. -/
def hs : FVec Ideal S32768x128x8 .f32 := widths (hPart (par V))

/-- The slopes at every element's edges. -/
def ds : FVec Ideal S32768x128x9 .f32 := slopes (dPart (par V))

/-- The edges of every element's bins. -/
def es : FVec Ideal S32768x128x9 .f32 := moved (edges (ws V))

/-- The words of the bin numbers, on one more axis. -/
def bw : IVec S32768x128x1 32 :=
  broadcastInDim S32768x128x1 ![0, 1] bcast_S32768x128_S32768x128x1_0_1 (binWord (pts V) (es V))

/-- The words of the next edges. -/
def bw1 : IVec S32768x128x1 32 :=
  addi (bw V) (broadcastInDim S32768x128x1 ![] bcast_S_S32768x128x1 (constantI S_ 32 1#32))

/-- The numbers of every element's bin. -/
def bins : Bins where
  cw := take9 (es V) (wrap 9#32 (bw V))
  ww := take8 (ws V) (wrap 8#32 (bw V))
  ch := take9 (edges (hs V)) (wrap 9#32 (bw V))
  hh := take8 (hs V) (wrap 8#32 (bw V))
  di := keep (take9 (ds V) (wrap 9#32 (bw V))) 0x447A0000#32 0x3A83126F#32
  di1 := keep (take9 (ds V) (wrap 9#32 (bw1 V))) 0x447A0000#32 0x3A83126F#32

theorem bins_cw : (bins V).cw = take9 (es V) (wrap 9#32 (bw V)) := by dsimp only [bins]
theorem bins_ww : (bins V).ww = take8 (ws V) (wrap 8#32 (bw V)) := by dsimp only [bins]
theorem bins_hh : (bins V).hh = take8 (hs V) (wrap 8#32 (bw V)) := by dsimp only [bins]

/-! ### The named intermediate arrays -/

theorem v2_eq : res_main_v2 V = kept (a0 V) (a1 V) := rfl
theorem v7_eq : res_main_v7 V = pts V := rfl
theorem v17_eq : res_main_v17 V = par V := by
  unfold res_main_v17 par; rw [v2_eq]; rfl
theorem v18_eq : res_main_v18 V = wPart (par V) := by
  unfold res_main_v18; rw [v17_eq]; rfl
theorem v19_eq : res_main_v19 V = hPart (par V) := by
  unfold res_main_v19; rw [v17_eq]; rfl
theorem v20_eq : res_main_v20 V = dPart (par V) := by
  unfold res_main_v20; rw [v17_eq]; rfl
theorem v35_eq : res_main_v35 V = ws V := by
  unfold res_main_v35 res_main_v27; rw [v18_eq]; rfl
theorem v58_eq : res_main_v58 V = hs V := by
  unfold res_main_v58 res_main_v50; rw [v19_eq]; rfl
theorem v69_eq : res_main_v69 V = ds V := by
  unfold res_main_v69 res_main_call5_v3 res_main_call5_cst; rw [v20_eq]; rfl
theorem v72_eq : res_main_v72 V = es V := by
  unfold res_main_v72; rw [v35_eq]; rfl
theorem v81_eq : res_main_v81 V = bw V := by
  unfold res_main_v81; rw [v7_eq, v72_eq]; rfl
theorem v94_eq : res_main_v94 V = bw1 V := by
  unfold res_main_v94; rw [v81_eq]; rfl
theorem call7_eq : res_main_call7_v5 V = wrap 9#32 (bw V) := by
  unfold res_main_call7_v5; rw [v81_eq]; rfl
theorem call8_eq : res_main_call8_v5 V = wrap 8#32 (bw V) := by
  unfold res_main_call8_v5; rw [v81_eq]; rfl
theorem call9_eq : res_main_call9_v5 V = wrap 9#32 (bw V) := by
  unfold res_main_call9_v5; rw [v81_eq]; rfl
theorem call10_eq : res_main_call10_v5 V = wrap 8#32 (bw V) := by
  unfold res_main_call10_v5; rw [v81_eq]; rfl
theorem call11_eq : res_main_call11_v5 V = wrap 9#32 (bw V) := by
  unfold res_main_call11_v5; rw [v81_eq]; rfl
theorem call13_eq : res_main_call13_v5 V = wrap 9#32 (bw1 V) := by
  unfold res_main_call13_v5; rw [v94_eq]; rfl
theorem v85_eq : res_main_v85 V = (bins V).ww := by
  unfold res_main_v85; rw [v35_eq, call8_eq]
  rw [bins_ww]
  generalize ws V = x, wrap 8#32 (bw V) = w
  rfl
theorem v92_eq : res_main_v92 V = (bins V).di := by
  unfold res_main_v92; rw [v69_eq, call11_eq]; rfl
theorem v97_eq : res_main_v97 V = (bins V).di1 := by
  unfold res_main_v97; rw [v69_eq, call13_eq]; rfl
theorem v98_eq : res_main_v98 V = slope (bins V) := by
  unfold res_main_v98; rw [v58_eq, call10_eq, v85_eq]
  unfold Tail.slope
  rw [bins_hh]
  generalize hs V = x, wrap 8#32 (bw V) = w, (bins V).ww = d
  rfl
theorem v101_eq : res_main_v101 V = theta (pts V) (bins V) := by
  unfold res_main_v101; rw [v7_eq, v72_eq, call7_eq, v85_eq]
  unfold theta
  rw [bins_cw]
  generalize pts V = p, es V = x, wrap 9#32 (bw V) = w, (bins V).ww = d
  rfl
theorem v104_eq : res_main_v104 V = both (theta (pts V) (bins V)) := by
  unfold res_main_v104; rw [v101_eq]; rfl
theorem v116_eq : res_main_v116 V = den (slope (bins V)) (theta (pts V) (bins V)) (bins V) := by
  unfold res_main_v116; rw [v98_eq, v92_eq, v97_eq, v104_eq]; rfl
theorem v129_eq : res_main_v129 V = left (theta (pts V) (bins V)) := by
  unfold res_main_v129; rw [v101_eq]; rfl

/-! ### At one element -/

/-- The points at an element. -/
theorem pts_at (r : Fin 32768) (l : Fin 128) : pts V (ix2 r l) = (args V).rest r l := rest_at _ _ r l

/-- The parameters at an element. -/
theorem par_at (r : Fin 32768) (l : Fin 128) : (fun k => par V (ix3 r l k)) = (args V).u r l := by
  funext k
  unfold par
  rw [net_at]
  simp only [kept_at]
  rfl

/-- The widths at an element. -/
theorem ws_at (r : Fin 32768) (l : Fin 128) : (fun k => ws V (ix3 r l k)) = rWidth (uW ((args V).u r l)) := by
  funext k
  unfold ws
  rw [widths_at]
  simp only [wPart_at, par_at]

/-- The heights at an element. -/
theorem hs_at (r : Fin 32768) (l : Fin 128) : (fun k => hs V (ix3 r l k)) = rWidth (uH ((args V).u r l)) := by
  funext k
  unfold hs
  rw [widths_at]
  simp only [hPart_at, par_at]

/-- The slopes at an element. -/
theorem ds_at (r : Fin 32768) (l : Fin 128) (k : Fin 9) : ds V (ix3 r l k) = Spline.slope (uD ((args V).u r l) k) := by
  unfold ds
  rw [slopes_at, dPart_at, par_at]

/-- The edges at an element. -/
theorem es_at (r : Fin 32768) (l : Fin 128) :
    (fun k => es V (ix3 r l k)) = lastUp (rEdge (rWidth (uW ((args V).u r l)))) := by
  funext k
  unfold es
  rw [moved_at]
  simp only [edges_at, ws_at]

/-- The heights' edges at an element. -/
theorem hEdges_at (r : Fin 32768) (l : Fin 128) (k : Fin 9) :
    edges (hs V) (ix3 r l k) = rEdge (rWidth (uH ((args V).u r l))) k := by
  rw [edges_at, hs_at]

/-- The number of an element's bin. -/
def no (r : Fin 32768) (l : Fin 128) : Fin 8 :=
  rBinNo ((args V).rest r l) (lastUp (rEdge (rWidth (uW ((args V).u r l)))))

/-- The bin number's word at an element. -/
theorem bw_at (r : Fin 32768) (l : Fin 128) : bw V (ix3 r l 0) = BitVec.ofNat 32 (no V r l).val := by
  have e : bw V (ix3 r l 0) = binWord (pts V) (es V) (ix2 r l) := by
    unfold bw
    generalize binWord (pts V) (es V) = w
    pointwise
  rw [e, binWord_at, es_at, pts_at]
  rfl

/-- The next edge's word at an element. -/
theorem bw1_at (r : Fin 32768) (l : Fin 128) : bw1 V (ix3 r l 0) = BitVec.ofNat 32 ((no V r l).val + 1) := by
  have e : bw1 V (ix3 r l 0) = IntOp.addi (bw V (ix3 r l 0)) 1#32 := rfl
  rw [e, bw_at]
  exact (BitVec.ofNat_add _ _).symm

/-- The wrapped words at an element. -/
theorem wrap_bw (n : BitVec 32) (r : Fin 32768) (l : Fin 128) :
    wrap n (bw V) (ix4 r l 0 0) = BitVec.ofNat 32 (no V r l).val := wrap_at n _ r l (by omega) (bw_at V r l)

/-- The wrapped words of the next edges at an element. -/
theorem wrap_bw1 (n : BitVec 32) (r : Fin 32768) (l : Fin 128) :
    wrap n (bw1 V) (ix4 r l 0 0) = BitVec.ofNat 32 ((no V r l).val + 1) := wrap_at n _ r l (by omega) (bw1_at V r l)

/-- The bin of an element is the one its arguments give. -/
theorem bins_at (r : Fin 32768) (l : Fin 128) :
    (bins V).at (ix2 r l) = rBin ((args V).rest r l) ((args V).u r l) := by
  have hw := fun k => congrFun (ws_at V r l) k
  have hh := fun k => congrFun (hs_at V r l) k
  have he := fun k => congrFun (es_at V r l) k
  unfold Bins.at bins rBin
  simp only [keep_at]
  rw [take9_at _ _ r l (no V r l).castSucc (wrap_bw V _ r l), take8_at _ _ r l (no V r l) (wrap_bw V _ r l),
    take9_at _ _ r l (no V r l).castSucc (wrap_bw V _ r l), take8_at _ _ r l (no V r l) (wrap_bw V _ r l),
    take9_at _ _ r l (no V r l).castSucc (wrap_bw V _ r l), take9_at _ _ r l (no V r l).succ (wrap_bw1 V _ r l)]
  rw [hw, hh, he, hEdges_at, ds_at, ds_at]
  rfl

/-! ### The results -/

/-- The first result, from the arguments. -/
def first : FVec Ideal S32768x128 .f32 := out (pts V) (kept (a0 V) (a1 V)) (down (other (a1 V))) (bins V)

/-- The second result, from the arguments. -/
def second : FVec Ideal S32768x1 .f32 := rows (share (pts V) (down (other (a1 V))) (bins V))

/-- The first result at every element. -/
theorem first_eq : first V = fun i => (args V).rOut (i 0) (i 1) := by
  funext i
  idx_vars i
  unfold first
  rw [out_at, bins_at, pts_at, kept_at, down_at, other_at]
  rfl

/-- The second result at every row. -/
theorem second_eq : second V = fun i => (args V).rLd (i 0) := by
  funext i
  idx_vars i
  obtain rfl : i1 = 0 := Subsingleton.elim _ _
  unfold second
  rw [rows_at]
  simp only [share_at, bins_at, pts_at, down_at, other_at]
  rfl

end Cert.ReferenceIdeal.Result

end
-- ==== Proof.RefRun.lean ====
module

public import proofs.«01_k».proof.Proof.RefResult

@[expose] public section

set_option maxRecDepth 16384

noncomputable section

/-! The reference's run ends with its two results at the values its arguments give. -/

namespace Cert.ReferenceIdeal.Result

open Idealize.ShloMosaic Idealize.SL.Sem Cert.ReferenceIdeal Cert.ReferenceIdeal.Gen Cert.ReferenceIdeal.Value Cert.Spline
open Cert.ReferenceIdeal.Params Cert.ReferenceIdeal.Widths Cert.ReferenceIdeal.Edges Cert.ReferenceIdeal.Count
open Cert.ReferenceIdeal.Take Cert.ReferenceIdeal.Tail Idealize.ShloMosaic.StableHlo

variable (V : Valuation τ sig (Elt Ideal))

theorem bins_ch : (bins V).ch = take9 (edges (hs V)) (wrap 9#32 (bw V)) := by dsimp only [bins]

/-- Where a point lies within the spline's range. -/
theorem v143_eq : res_main_v143 V
    = andi (cmpf .oge (pts V) (all 0xC0400000#32)) (cmpf .ole (pts V) (all 0x40400000#32)) := by
  unfold res_main_v143; rw [v7_eq]; rfl

/-- The first result's term is the first result. -/
theorem val_first : val4 V (Proc.devRef .tc main_v151) = first V := by
  refine (val4_main_v151 V).trans ?_
  rw [v2_eq, v143_eq, call9_eq, v58_eq, v98_eq, v97_eq, v101_eq, v104_eq, v116_eq, v85_eq, v7_eq]
  unfold first out within value
  rw [bins_ch]
  generalize pts V = p, kept (a0 V) (a1 V) = k, edges (hs V) = e, hs V = x, wrap 9#32 (bw V) = w,
    Tail.slope (bins V) = s, bins V = b
  rfl

/-- The second result's term is the second result. -/
theorem val_second : val4 V (Proc.devRef .tc main_v158) = second V := by
  refine (val4_main_v158 V).trans ?_
  rw [v143_eq, v98_eq, v97_eq, v92_eq, v101_eq, v104_eq, v116_eq, v129_eq]
  unfold second rows share within logDer
  generalize pts V = p, Tail.slope (bins V) = s, bins V = b
  rfl

/-- The run ends with the two results of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v151)
        = (fun i => (args (launchContents m c)).rOut (i 0) (i 1) : FVec Ideal S32768x128 .f32)
      ∧ r.2.mem ((c.tc : Thread nD τ).loc main_v158)
        = (fun i => (args (launchContents m c)).rLd (i 0) : FVec Ideal S32768x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((val4_main_v151 _).symm.trans ((val_first _).trans (first_eq _))),
      (h c).2.1.trans ((val4_main_v158 _).symm.trans ((val_second _).trans (second_eq _))), (h c).2.2⟩)
    (Value.run m ρ)

end Cert.ReferenceIdeal.Result

end
-- ==== Proof.lean ====
/- The proof of the certificate's claims: the frames, the idealization, and that the kernel and the reference
   end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Finite
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From memories that agree on the arguments the two programs end with equal results. -/
theorem algebraic [Cert.Pre_finite.Facts] : Cert.algebraic_KernelIdeal_ReferenceIdeal_pre_finite := by
  pair_intro
  · run_from Cert.KernelIdeal.Value.run_blocks m g
  · refine (θ_run Cert.ReferenceIdeal.defs _ _).mono (fun r h c => ?_) (Cert.ReferenceIdeal.Result.run m' g')
    have e : Cert.ReferenceIdeal.Result.args (StableHlo.launchContents m' c) = Cert.KernelIdeal.Arrays.args m c := by
      obtain ⟨e0, e1, e2, e3, e4, e5⟩ := hagree c
      exact Cert.Spline.args_ext (fun r l => congrFun e0 (ix2 r l)) (fun l => congrFun e1 (ix1 l))
        (fun i j => congrFun e2 (ix2 i j)) (fun j => congrFun e3 (ix1 j)) (fun j n => congrFun e4 (ix2 j n))
        (fun n => congrFun e5 (ix1 n))
    have hf := Cert.KernelIdeal.Arrays.args_finite m hpre c
    refine ⟨(h c).1.trans ?_, (h c).2.1.trans ?_, (h c).2.2⟩
    · rw [Cert.KernelIdeal.Arrays.out_final m c, e]
      funext i
      exact (hf.out_eq (i 0) (i 1)).symm
    · rw [Cert.KernelIdeal.Arrays.ld_final m c, e]
      funext i
      exact (hf.ld_eq (i 0)).symm

/-- The reference runs, leaves its arguments unchanged, and every counter reads zero at the end. -/
theorem frame_reference : Cert.quiescent_ReferenceIdeal := fun m ρ _ =>
  (θ_run Cert.ReferenceIdeal.defs _ _).mono
    (fun r h => And.intro (fun c => (h c).2.2) (sem_eq_zero_of_no_sems (by decide) r.2))
    (Cert.ReferenceIdeal.Result.run m ρ)

theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, @algebraic Cert.Pre_finite.facts⟩

end Cert.Proof

end
